-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x32768 : Shape := ⟨2, ![64, 32768]⟩
abbrev S32x16 : Shape := ⟨2, ![32, 16]⟩
abbrev S16384 : Shape := ⟨1, ![16384]⟩
abbrev S16 : Shape := ⟨1, ![16]⟩
abbrev S_ : Shape := ⟨0, ![]⟩
abbrev S1x16384 : Shape := ⟨2, ![1, 16384]⟩
abbrev S1x16 : Shape := ⟨2, ![1, 16]⟩
abbrev S64 : Shape := ⟨1, ![64]⟩
abbrev S8x32768 : Shape := ⟨2, ![8, 32768]⟩
abbrev S8 : Shape := ⟨1, ![8]⟩
abbrev S8x1 : Shape := ⟨2, ![8, 1]⟩
abbrev S1x8 : Shape := ⟨2, ![1, 8]⟩
abbrev S1x32x16 : Shape := ⟨3, ![1, 32, 16]⟩
abbrev S1 : Shape := ⟨1, ![1]⟩
abbrev S1x1x1 : Shape := ⟨3, ![1, 1, 1]⟩
abbrev S1x1 : Shape := ⟨2, ![1, 1]⟩

abbrev nBuf : Table → Nat
  | .hbm => 8
  | .local .tc .vmem => 15
  | .local .scVector .vmem => 5
  | _ => 0

abbrev bufTy : (tb : Table) → Fin (nBuf tb) → BufTy
  | .hbm, ⟨0, _⟩ => ⟨S64x32768, .f32⟩
  | .hbm, ⟨1, _⟩ => ⟨S64x32768, .f32⟩
  | .hbm, ⟨2, _⟩ => ⟨S32x16, .f32⟩
  | .hbm, ⟨3, _⟩ => ⟨S32x16, .i32⟩
  | .hbm, ⟨4, _⟩ => ⟨S64, .i32⟩
  | .hbm, ⟨5, _⟩ => ⟨S16, .f32⟩
  | .hbm, ⟨6, _⟩ => ⟨S16, .i32⟩
  | .hbm, ⟨7, _⟩ => ⟨S64, .i32⟩
  | .local .tc .vmem, ⟨0, _⟩ => ⟨S8x32768, .f32⟩
  | .local .tc .vmem, ⟨1, _⟩ => ⟨S8x32768, .f32⟩
  | .local .tc .vmem, ⟨2, _⟩ => ⟨S8x32768, .f32⟩
  | .local .tc .vmem, ⟨3, _⟩ => ⟨S8x32768, .f32⟩
  | .local .tc .vmem, ⟨4, _⟩ => ⟨S8x32768, .f32⟩
  | .local .tc .vmem, ⟨5, _⟩ => ⟨S8x32768, .f32⟩
  | .local .tc .vmem, ⟨6, _⟩ => ⟨S64, .i32⟩
  | .local .tc .vmem, ⟨7, _⟩ => ⟨S16, .f32⟩
  | .local .tc .vmem, ⟨8, _⟩ => ⟨S16, .i32⟩
  | .local .tc .vmem, ⟨9, _⟩ => ⟨S32x16, .f32⟩
  | .local .tc .vmem, ⟨10, _⟩ => ⟨S32x16, .i32⟩
  | .local .tc .vmem, ⟨11, _⟩ => ⟨S16, .f32⟩
  | .local .tc .vmem, ⟨12, _⟩ => ⟨S16, .i32⟩
  | .local .tc .vmem, ⟨13, _⟩ => ⟨S64, .i32⟩
  | .local .tc .vmem, ⟨14, _⟩ => ⟨S64, .i32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16, .f32⟩
  | .local .scVector .vmem, ⟨4, _⟩ => ⟨S16, .i32⟩
  | _, _ => ⟨S64x32768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_arg0_scv : Ref sig .scVector := ⟨.hbm, 0, rfl⟩
abbrev main_v0_0_scv : Ref sig .scVector := ⟨.hbm, 2, rfl⟩
abbrev main_v0_1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c3_i32 v1
  let v3 : BitVec 32 := Scalar.addi v2 c0_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c2_i32_0 : BitVec 32 := 2#32
  let c0_i32_3 : BitVec 32 := 0#32
  let v10 : BitVec 1 := Scalar.cmpi .sgt c2_i32_0 c0_i32_3
  let v11 : BitVec 32 := Scalar.extui v10
  let c0_i32_4 : BitVec 32 := 0#32
  let v12 : BitVec 1 := Scalar.cmpi .slt c2_i32_0 c0_i32_4
  let v13 : BitVec 32 := Scalar.extui v12
  let v14 : BitVec 32 := Scalar.subi v11 v13
  let v15 : BitVec 1 := Scalar.cmpi .ne v9 v14
  let v16 : BitVec 32 := Scalar.remsi v3 c2_i32_0
  let c0_i32_5 : BitVec 32 := 0#32
  let v17 : BitVec 1 := Scalar.cmpi .ne v16 c0_i32_5
  let v18 : BitVec 1 := Scalar.andi v15 v17
  let v4 : BitVec 32 := Scalar.divsi v3 c2_i32_0
  let c1_i32 : BitVec 32 := 1#32
  let v19 : BitVec 32 := Scalar.subi v4 c1_i32
  let v20 : BitVec 32 := Scalar.select v18 v19 v4
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c16384_i32 : BitVec 32 := 16384#32
  let v31 : BitVec 32 := Scalar.muli v30 c16384_i32
  ![v20.toNat, v31.toNat]
@[reducible] def k0_t1_loop : Scf.Loop 32 :=
  let c0_i32_59 : BitVec 32 := 0#32
  let c128_i32 : BitVec 32 := 128#32
  let v124 : BitVec 32 := Scalar.addi c0_i32_59 c128_i32
  let c1_i32_60 : BitVec 32 := 1#32
  ⟨c0_i32_59, v124, c1_i32_60⟩
def k0_off2 (k0_t1 : Fin k0_t1_loop.trips) (c0_i32_153 : BitVec 32) : Fin 1 → Nat :=
  let c0_i32_59 : BitVec 32 := 0#32
  let c1_i32_60 : BitVec 32 := 1#32
  let arg15 : BitVec 32 := Scf.iv c0_i32_59 c1_i32_60 k0_t1
  let c8_i32 : BitVec 32 := 8#32
  let v477 : BitVec 32 := Scalar.muli arg15 c8_i32
  let v478 : BitVec 32 := Scalar.addi v477 c0_i32_153
  let c16_i32_154 : BitVec 32 := 16#32
  let v479 : BitVec 32 := Scalar.muli v478 c16_i32_154
  let v480 : Index := Scalar.indexCast v479
  ![v480.toNat]
@[reducible] def k0_t2_loop : Scf.Loop 32 :=
  let c0_i32_87 : BitVec 32 := 0#32
  let c128_i32_88 : BitVec 32 := 128#32
  let v238 : BitVec 32 := Scalar.addi c0_i32_87 c128_i32_88
  let c1_i32_89 : BitVec 32 := 1#32
  ⟨c0_i32_87, v238, c1_i32_89⟩
def k0_off3 (k0_t2 : Fin k0_t2_loop.trips) (c0_i32_153 : BitVec 32) : Fin 1 → Nat :=
  let c0_i32_87 : BitVec 32 := 0#32
  let c1_i32_89 : BitVec 32 := 1#32
  let arg15 : BitVec 32 := Scf.iv c0_i32_87 c1_i32_89 k0_t2
  let c8_i32 : BitVec 32 := 8#32
  let v477 : BitVec 32 := Scalar.muli arg15 c8_i32
  let v478 : BitVec 32 := Scalar.addi v477 c0_i32_153
  let c16_i32_154 : BitVec 32 := 16#32
  let v479 : BitVec 32 := Scalar.muli v478 c16_i32_154
  let v480 : Index := Scalar.indexCast v479
  ![v480.toNat]
@[reducible] def k0_t3_loop : Scf.Loop 32 :=
  let c0_i32_124 : BitVec 32 := 0#32
  let c128_i32_125 : BitVec 32 := 128#32
  let v355 : BitVec 32 := Scalar.addi c0_i32_124 c128_i32_125
  let c1_i32_126 : BitVec 32 := 1#32
  ⟨c0_i32_124, v355, c1_i32_126⟩
def k0_off4 (k0_t3 : Fin k0_t3_loop.trips) (c0_i32_153 : BitVec 32) : Fin 1 → Nat :=
  let c0_i32_124 : BitVec 32 := 0#32
  let c1_i32_126 : BitVec 32 := 1#32
  let arg15 : BitVec 32 := Scf.iv c0_i32_124 c1_i32_126 k0_t3
  let c8_i32 : BitVec 32 := 8#32
  let v477 : BitVec 32 := Scalar.muli arg15 c8_i32
  let v478 : BitVec 32 := Scalar.addi v477 c0_i32_153
  let c16_i32_154 : BitVec 32 := 16#32
  let v479 : BitVec 32 := Scalar.muli v478 c16_i32_154
  let v480 : Index := Scalar.indexCast v479
  ![v480.toNat]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_145 : BitVec 32 := 0#32
  ![v1.toNat, 0]
abbrev grid1 : Pipeline.Grid := ⟨1, ![4], ![false]⟩

def k1_cond1 (i : grid1.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_7 : BitVec 32 := 0#32
  let v20 : BitVec 1 := Scalar.cmpi .ne v19 c0_i32_7
  v20

def k1_cond2 (i : grid1.Coords) : BitVec 1 :=
  let arg0 : BitVec 32 := BitVec.ofNat 32 (i 0).val
  let c1_i32 : BitVec 32 := 1#32
  let v21 : BitVec 1 := Scalar.cmpi .eq arg0 c1_i32
  let v22 : BitVec 32 := Scalar.extui v21
  let c0_i32_8 : BitVec 32 := 0#32
  let v23 : BitVec 1 := Scalar.cmpi .ne v22 c0_i32_8
  v23

def k1_cond3 (i : grid1.Coords) : BitVec 1 :=
  let arg0 : BitVec 32 := BitVec.ofNat 32 (i 0).val
  let c2_i32 : BitVec 32 := 2#32
  let v24 : BitVec 1 := Scalar.cmpi .eq arg0 c2_i32
  let v25 : BitVec 32 := Scalar.extui v24
  let c0_i32_9 : BitVec 32 := 0#32
  let v26 : BitVec 1 := Scalar.cmpi .ne v25 c0_i32_9
  v26

def k1_cond4 (i : grid1.Coords) : BitVec 1 :=
  let arg0 : BitVec 32 := BitVec.ofNat 32 (i 0).val
  let c3_i32 : BitVec 32 := 3#32
  let v27 : BitVec 1 := Scalar.cmpi .eq arg0 c3_i32
  let v28 : BitVec 32 := Scalar.extui v27
  let c0_i32_10 : BitVec 32 := 0#32
  let v29 : BitVec 1 := Scalar.cmpi .ne v28 c0_i32_10
  v29

def k1_cond5 (i : grid1.Coords) : BitVec 1 :=
  let arg0 : BitVec 32 := BitVec.ofNat 32 (i 0).val
  let c2_i32_11 : BitVec 32 := 2#32
  let v30 : BitVec 1 := Scalar.cmpi .slt arg0 c2_i32_11
  let v31 : BitVec 32 := Scalar.extui v30
  let c0_i32_12 : BitVec 32 := 0#32
  let v32 : BitVec 1 := Scalar.cmpi .ne v31 c0_i32_12
  v32

def k1_cond6 (i : grid1.Coords) : BitVec 1 :=
  let arg0 : BitVec 32 := BitVec.ofNat 32 (i 0).val
  let c0_i32_19 : BitVec 32 := 0#32
  let v43 : BitVec 1 := Scalar.cmpi .eq arg0 c0_i32_19
  let v44 : BitVec 32 := Scalar.extui v43
  let c0_i32_20 : BitVec 32 := 0#32
  let v45 : BitVec 1 := Scalar.cmpi .ne v44 c0_i32_20
  v45

def k1_cond7 (i : grid1.Coords) : BitVec 1 :=
  let arg0 : BitVec 32 := BitVec.ofNat 32 (i 0).val
  let c1_i32_21 : BitVec 32 := 1#32
  let v46 : BitVec 1 := Scalar.cmpi .eq arg0 c1_i32_21
  let v47 : BitVec 32 := Scalar.extui v46
  let c0_i32_22 : BitVec 32 := 0#32
  let v48 : BitVec 1 := Scalar.cmpi .ne v47 c0_i32_22
  v48

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 1 := Scalar.cmpi .slt arg0 c2_i32
  let c6_i32 : BitVec 32 := 6#32
  let v1 : BitVec 32 := Scalar.addi c6_i32 arg0
  let c7_i32 : BitVec 32 := 7#32
  let v2 : BitVec 32 := Scalar.select v0 v1 c7_i32
  let c0_i32 : BitVec 32 := 0#32
  let c0_i32_0 : BitVec 32 := 0#32
  ![v2.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S8x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x16 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x32768 : Shape := ⟨2, ![64, 32768]⟩
abbrev S2097152 : Shape := ⟨1, ![2097152]⟩
abbrev S_ : Shape := ⟨0, ![]⟩
abbrev S64 : Shape := ⟨1, ![64]⟩

abbrev nBuf : Space → Nat
  | .hbm => 15
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S64x32768, .f32⟩
  | .hbm, ⟨2, _⟩ => ⟨S2097152, .f32⟩
  | .hbm, ⟨3, _⟩ => ⟨S2097152, .i32⟩
  | .hbm, ⟨4, _⟩ => ⟨S_, .f32⟩
  | .hbm, ⟨5, _⟩ => ⟨S_, .i32⟩
  | .hbm, ⟨6, _⟩ => ⟨S_, .f32⟩
  | .hbm, ⟨7, _⟩ => ⟨S_, .i32⟩
  | .hbm, ⟨8, _⟩ => ⟨S64x32768, .i32⟩
  | .hbm, ⟨9, _⟩ => ⟨S_, .f32⟩
  | .hbm, ⟨10, _⟩ => ⟨S_, .i32⟩
  | .hbm, ⟨11, _⟩ => ⟨S64, .f32⟩
  | .hbm, ⟨12, _⟩ => ⟨S64, .i32⟩
  | .hbm, ⟨13, _⟩ => ⟨S64, .i32⟩
  | .hbm, ⟨14, _⟩ => ⟨S64, .i32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_c : Ref sig .tc := ⟨.hbm, 10, rfl⟩
abbrev main_call1_v1_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Proof.Fns.lean ====
/-
  What one tile of the SparseCore computes, as pure functions over any float values.

  A tile reads three consecutive half-rows ("chunks") of 16384 words. Each chunk is scanned in 128 trips of eight lane
  groups of sixteen words; every (group, lane) keeps the largest value met so far and the trip it was met in. The eight
  groups are then merged pairwise, the larger value winning and the smaller index on a tie; last the three chunks are
  merged, an earlier chunk winning a tie.
-/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic

variable {F : FTy → Type} [FloatOps F]

/-- Position `n` of a chunk (taken modulo its length, so that it is one for every `n`). -/
def pos (n : ℕ) : S16384.Idx := fun | 0 => ⟨n % 16384, Nat.mod_lt _ (by decide)⟩

/-- Word `128 k + 16 u + lane` of a chunk: what trip `k` loads for lane group `u`. -/
def ld (b : S16384.Idx → F .f32) (k : ℕ) (u : ℕ) : FVec F S16 .f32 :=
  fun j => b (pos (128 * k + 16 * u + (j 0).val))

/-- The larger of the word loaded and the best so far. -/
def updV (v a : FVec F S16 .f32) : FVec F S16 .f32 :=
  select (cmpf .ogt (shapeCast S16 v shapeCasts_S16_S16) a) (shapeCast S16 v shapeCasts_S16_S16) a

/-- The trip that word was met in. -/
def updI (k : BitVec 32) (v a : FVec F S16 .f32) (i : IVec S16 32) : IVec S16 32 :=
  select (cmpf .ogt (shapeCast S16 v shapeCasts_S16_S16) a) (broadcast S16 k) i

/-- What the scan carries: eight vectors of values, eight of trip numbers. -/
abbrev Carry (F : FTy → Type) : Type :=
  FVec F S16 .f32 × FVec F S16 .f32 × FVec F S16 .f32 × FVec F S16 .f32 × FVec F S16 .f32 × FVec F S16 .f32
    × FVec F S16 .f32 × FVec F S16 .f32 × IVec S16 32 × IVec S16 32 × IVec S16 32 × IVec S16 32 × IVec S16 32
    × IVec S16 32 × IVec S16 32 × IVec S16 32

/-- The carry as two families over the lane groups. -/
abbrev Fam (F : FTy → Type) : Type := (ℕ → FVec F S16 .f32) × (ℕ → IVec S16 32)

abbrev tup (p : Fam F) : Carry F :=
  (p.1 0, p.1 1, p.1 2, p.1 3, p.1 4, p.1 5, p.1 6, p.1 7, p.2 0, p.2 1, p.2 2, p.2 3, p.2 4, p.2 5, p.2 6, p.2 7)

/-- The families after `k` trips. -/
def scan (b : S16384.Idx → F .f32) : ℕ → Fam F
  | 0 => (fun _ => broadcast S16 (Scalar.ofBits .f32 0xFF800000#32), fun _ => broadcast S16 0#32)
  | k + 1 =>
    (fun u => updV (ld b k u) ((scan b k).1 u),
      fun u => updI (BitVec.ofNat 32 k) (ld b k u) ((scan b k).1 u) ((scan b k).2 u))

/-- A vector of candidates: a value and its position per lane. -/
abbrev Cand (F : FTy → Type) : Type := FVec F S16 .f32 × IVec S16 32

/-- The better of two candidates: the larger value, the smaller position on a tie. -/
def win2 (p q : Cand F) : Cand F :=
  let m := ori (cmpf .ogt p.1 q.1) (andi (cmpf .oeq p.1 q.1) (cmpi .slt p.2 q.2))
  (select m p.1 q.1, select m p.2 q.2)

/-- Lane group `u`'s candidate: its positions are `128 · trip + 16 u + lane`. -/
def cand (p : Fam F) (u : ℕ) : Cand F :=
  (p.1 u, addi (addi (shli (p.2 u) (broadcast S16 7#32)) (broadcast S16 (BitVec.ofNat 32 (16 * u))))
    (iota .scVector S16 32 [0] iota_S16_d0_w32_scVector))

/-- The eight groups merged. -/
def merge8 (p : Fam F) : Cand F :=
  win2 (win2 (win2 (cand p 0) (cand p 1)) (win2 (cand p 2) (cand p 3)))
    (win2 (win2 (cand p 4) (cand p 5)) (win2 (cand p 6) (cand p 7)))

/-- A chunk's candidates. -/
def chunk (b : S16384.Idx → F .f32) : Cand F := merge8 (scan b 128)

/-- A chunk's candidates shifted by the chunk's offset in the tile's words. -/
def shift (o : BitVec 32) (c : Cand F) : Cand F := (c.1, addi (broadcast S16 o) c.2)

/-- The later candidate `q` where it is strictly larger. -/
def winStrict (q p : Cand F) : Cand F :=
  (select (cmpf .ogt q.1 p.1) q.1 p.1, select (cmpf .ogt q.1 p.1) q.2 p.2)

/-- The three chunks merged. -/
def tileBest (b0 b1 b2 : S16384.Idx → F .f32) : Cand F :=
  winStrict (shift 32768#32 (chunk b2)) (winStrict (shift 16384#32 (chunk b1)) (shift 0#32 (chunk b0)))

/-- The tile's number, as a word. -/
def widW (i : grid0.Coords) : BitVec 32 := Scalar.addi (Scalar.muli (BitVec.ofNat 32 (i 1).val) 2#32) (BitVec.ofNat 32 (i 0).val)

/-- The two vectors a tile writes out: values, and flat positions in `x1`. -/
def tileV (b0 b1 b2 : S16384.Idx → F .f32) : FVec F S16 .f32 :=
  shapeCast S16 (tileBest b0 b1 b2).1 shapeCasts_S16_S16
def tileI (w : BitVec 32) (b0 b1 b2 : S16384.Idx → F .f32) : IVec S16 32 :=
  shapeCast S16 (addi (broadcast S16 (Scalar.muli w 49152#32)) (tileBest b0 b1 b2).2) shapeCasts_S16_S16

end Cert.Proof
-- ==== Proof.Setup.lean ====
/-
  The program as the launch theorem sees it: the SparseCore call's configuration, the resource algebra, and the buffers
  under the names the proofs use.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Fns

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UU : Type := UH × (UR sig nD τ × Counters)

/-- The model every assertion lives in. -/
abbrev MM (F : FTy → Type) : Type := MT nD τ sig (HIx 1) (Elt F) ℕ UU ℕ

abbrev EH : Emb UH (MM F) := embL

/-! ## The buffers -/

abbrev xLoc (d : Dev nD) : Loc nD τ sig := (SparseCore.T d).loc main_arg0
abbrev yLoc (d : Dev nD) : Loc nD τ sig := (SparseCore.T d).loc main_arg1
abbrev pvLoc (d : Dev nD) : Loc nD τ sig := (SparseCore.T d).loc main_v0_0
abbrev piLoc (d : Dev nD) : Loc nD τ sig := (SparseCore.T d).loc main_v0_1
abbrev raLoc (d : Dev nD) : Loc nD τ sig := (SparseCore.T d).loc main_v1_0
abbrev xvLoc (d : Dev nD) : Loc nD τ sig := (SparseCore.T d).loc main_v1_1
abbrev xiLoc (d : Dev nD) : Loc nD τ sig := (SparseCore.T d).loc main_v1_2
abbrev oLoc (d : Dev nD) : Loc nD τ sig := (SparseCore.T d).loc main_v2

/-- The SparseCore call's operands and a tile's scratch, as the body's views. -/
abbrev xV : Memref sig .scVector .hbm S64x32768 .f32 := Memref.whole main_arg0_scv
abbrev pvV : Memref sig .scVector .hbm S32x16 .f32 := Memref.whole main_v0_0_scv
abbrev piV : Memref sig .scVector .hbm S32x16 .i32 := Memref.whole main_v0_1_scv
abbrev b0V : Memref sig .scVector .vmem S16384 .f32 := Memref.whole cc0_scratch0
abbrev b1V : Memref sig .scVector .vmem S16384 .f32 := Memref.whole cc0_scratch1
abbrev b2V : Memref sig .scVector .vmem S16384 .f32 := Memref.whole cc0_scratch2
abbrev vV : Memref sig .scVector .vmem S16 .f32 := Memref.whole cc0_scratch3
abbrev iV : Memref sig .scVector .vmem S16 .i32 := Memref.whole cc0_scratch4

/-! ## A tile's thread and its slices -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The three half-rows of `x1` a tile reads, and the rows of the two outputs it writes, as the body slices them. -/
abbrev xs0 (L : grid0.Coords) : Memref sig .scVector .hbm S16384 .f32 :=
  ((xV).slice (Rect.unit (s := S64x32768) (k0_off1 L 0#32) S1x16384.size (k0_off1_inb L 0)) (fun _ => rfl)).squeeze S16384 squeezes_S1x16384_S16384
abbrev xs1 (L : grid0.Coords) : Memref sig .scVector .hbm S16384 .f32 :=
  ((xV).slice (Rect.unit (s := S64x32768) (k0_off1 L 1#32) S1x16384.size (k0_off1_inb L 1)) (fun _ => rfl)).squeeze S16384 squeezes_S1x16384_S16384
abbrev xs2 (L : grid0.Coords) : Memref sig .scVector .hbm S16384 .f32 :=
  ((xV).slice (Rect.unit (s := S64x32768) (k0_off1 L 2#32) S1x16384.size (k0_off1_inb L 2)) (fun _ => rfl)).squeeze S16384 squeezes_S1x16384_S16384
abbrev pvR (L : grid0.Coords) : Memref sig .scVector .hbm S16 .f32 :=
  ((pvV).slice (Rect.unit (s := S32x16) (k0_off5 L) S1x16.size (k0_off5_inb L)) (fun _ => rfl)).squeeze S16 squeezes_S1x16_S16
abbrev piR (L : grid0.Coords) : Memref sig .scVector .hbm S16 .i32 :=
  ((piV).slice (Rect.unit (s := S32x16) (k0_off5 L) S1x16.size (k0_off5_inb L)) (fun _ => rfl)).squeeze S16 squeezes_S1x16_S16

/-- The five DMA cells a tile names: three for the copies in, two for the copies out. -/
abbrev csem (k : Nat) (hk : k < 20 := by decide) : DmaSem sig := ⟨k, hk⟩
abbrev cells0 (d : Dev nD) (L : grid0.Coords) : sProp (MM F) :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0)

end Cert.Proof
-- ==== Proof.Rows.lean ====
/-
  One grid point of the first TensorCore call: it reads two blocks of eight rows of `x2` (and, at the first two points, one
  of `x1`), and writes each row's argmax (and, for `x1`, each row's maximum and the flat position of its argmax) into the
  result blocks, which stay where they are over the whole grid.
-/
module

public import proofs.«01_k».proof.Proof.Setup
public import Idealize.ShloMosaic.Lib.Pipeline.ValueKit
public import Idealize.ShloMosaic.Lib.Pipeline.ArrRel
public import Idealize.ShloMosaic.Lib.Pipeline.Frame
public import Idealize.ShloMosaic.Lib.WritesUnit

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

/-! ## The blocks -/

/-- The eight rows from `8 b` on of an array of 64. -/
def rowsOf (f : S64x32768.Idx → F .f32) (b : ℕ) : S8x32768.Idx → F .f32 :=
  fun i => f fun | 0 => ⟨(8 * b + (i 0).val) % 64, Nat.mod_lt _ (by decide)⟩ | 1 => i 1

/-- Place `n` within a group of eight. -/
def in8 (n : ℕ) : S8.Idx := fun | 0 => ⟨n % 8, Nat.mod_lt _ (by decide)⟩

/-- Groups `n` and `n + 4` (of eight places each) of a result of 64 replaced. -/
def put64 {α : Type} (n : ℕ) (w0 w1 : S8.Idx → α) (Y : S64.Idx → α) : S64.Idx → α := fun j =>
  if (j 0).val / 8 = n then w0 (in8 (j 0).val) else if (j 0).val / 8 = n + 4 then w1 (in8 (j 0).val) else Y j

/-- Group `n` of a result of 16 replaced. -/
def put16 {α : Type} (n : ℕ) (w : S8.Idx → α) (Y : S16.Idx → α) : S16.Idx → α := fun j =>
  if (j 0).val / 8 = n then w (in8 (j 0).val) else Y j

omit [FloatOps F] in
theorem readAt_all {κ : Kind} {sp : Space} {s : Shape} {e : EltTy} (v : View sig κ sp s e) (f : v.ty.Contents (Elt F))
    {off : Fin s.rank → ℕ} (h : off = fun _ => 0) (inb : ∀ a, off a + s.size a ≤ s.size a) :
    v.readAt (Elt F) (Rect.unit off s.size inb).toLoadRect f = v.read (Elt F) f := by
  rw [View.readAt_eq_ld]; exact View.ld_unit_zero h inb _

omit [FloatOps F] in
theorem read_put64 {κ : Kind} {sp : Space} {e : EltTy} (v : View sig κ sp S64 e) (f : v.ty.Contents (Elt F)) (n : ℕ)
    (o0 o1 : Fin 1 → ℕ) (inb0 : ∀ a, o0 a + S8.size a ≤ S64.size a) (inb1 : ∀ a, o1 a + S8.size a ≤ S64.size a)
    (e0 : o0 = ![8 * n]) (e1 : o1 = ![8 * n + 32]) (w0 w1 : S8.Idx → Elt F e) :
    v.read (Elt F) (v.writes (Elt F) f [⟨Rect.unit (s := S64) o1 S8.size inb1, w1⟩, ⟨Rect.unit (s := S64) o0 S8.size inb0, w0⟩])
      = put64 n w0 w1 (v.read (Elt F) f) := by
  funext j
  have hj : (j 0).val < 64 := (j 0).isLt
  rw [put64]
  by_cases h1 : (j 0).val / 8 = n + 4
  · rw [if_neg (by omega), if_pos h1]
    exact View.read_writes_cons_unit_of_mem v f inb1 w1 _ j (in8 (j 0).val) e1 fun a => by
      match a with
      | 0 => show (j 0).val = 8 * n + 32 + (j 0).val % 8; omega
  rw [View.read_writes_cons_unit_of_not_mem v f inb1 w1 _ j e1 0 (show (j 0).val < 8 * n + 32 ∨ 8 * n + 32 + 8 ≤ (j 0).val by omega)]
  by_cases h0 : (j 0).val / 8 = n
  · rw [if_pos h0]
    exact View.read_writes_cons_unit_of_mem v f inb0 w0 _ j (in8 (j 0).val) e0 fun a => by
      match a with
      | 0 => show (j 0).val = 8 * n + (j 0).val % 8; omega
  rw [View.read_writes_cons_unit_of_not_mem v f inb0 w0 _ j e0 0 (show (j 0).val < 8 * n ∨ 8 * n + 8 ≤ (j 0).val by omega)]
  rw [if_neg h0, if_neg h1]
  rfl

omit [FloatOps F] in
theorem read_put16 {κ : Kind} {sp : Space} {e : EltTy} (v : View sig κ sp S16 e) (f : v.ty.Contents (Elt F)) (n : ℕ)
    (o0 : Fin 1 → ℕ) (inb0 : ∀ a, o0 a + S8.size a ≤ S16.size a) (e0 : o0 = ![8 * n]) (w : S8.Idx → Elt F e) :
    v.read (Elt F) (v.writes (Elt F) f [⟨Rect.unit (s := S16) o0 S8.size inb0, w⟩]) = put16 n w (v.read (Elt F) f) := by
  funext j
  have hj : (j 0).val < 16 := (j 0).isLt
  rw [put16]
  by_cases h0 : (j 0).val / 8 = n
  · rw [if_pos h0]
    exact View.read_writes_cons_unit_of_mem v f inb0 w _ j (in8 (j 0).val) e0 fun a => by
      match a with
      | 0 => show (j 0).val = 8 * n + (j 0).val % 8; omega
  rw [View.read_writes_cons_unit_of_not_mem v f inb0 w _ j e0 0 (show (j 0).val < 8 * n ∨ 8 * n + 8 ≤ (j 0).val by omega)]
  rw [if_neg h0]
  rfl

/-! ## One point -/

/-- What a point leaves in the three result blocks, from the three blocks of rows and what the result blocks held. -/
def step4 (n : ℕ) (X1 X2 : S8x32768.Idx → F .f32) (Y : S64.Idx → BitVec 32) : S64.Idx → BitVec 32 :=
  put64 n (k1_pay1 X1) (k1_pay1 X2) Y
def step5 (n : ℕ) (X3 : S8x32768.Idx → F .f32) (Y : S16.Idx → F .f32) : S16.Idx → F .f32 :=
  if n < 2 then put16 n (k1_pay4 X3) Y else Y
def step6 (n : ℕ) (X3 : S8x32768.Idx → F .f32) (Y : S16.Idx → BitVec 32) : S16.Idx → BitVec 32 :=
  if n = 0 then put16 0 (k1_pay5 X3) Y else if n = 1 then put16 1 (k1_pay6 X3) Y else Y

variable (c : Dev nD)

/-- The body at a point, on any whole buffers: the rows stay, the result blocks take the step. -/
theorem rows_run (t : Fin grid1.N) (M1 M2 M3 : Memref sig .tc .vmem S8x32768 .f32) (h1 : M1.IsWhole) (h2 : M2.IsWhole) (h3 : M3.IsWhole)
    (M4 : Memref sig .tc .vmem S64 .i32) (h4 : M4.IsWhole) (M5 : Memref sig .tc .vmem S16 .f32) (h5 : M5.IsWhole)
    (M6 : Memref sig .tc .vmem S16 .i32) (h6 : M6.IsWhole)
    (X1 X2 X3 : S8x32768.Idx → F .f32) (Y4 : S64.Idx → BitVec 32) (Y5 : S16.Idx → F .f32) (Y6 : S16.Idx → BitVec 32) :
    (iprop(owns (c : Thread nD τ) M1 fullShare X1 ∗ owns (c : Thread nD τ) M2 fullShare X2 ∗ owns (c : Thread nD τ) M3 fullShare X3
        ∗ owns (c : Thread nD τ) M4 fullShare Y4 ∗ owns (c : Thread nD τ) M5 fullShare Y5 ∗ owns (c : Thread nD τ) M6 fullShare Y6) : sProp (MM F))
      ⊢ wp frame (wpE (defs₀ (F := F)) 𝒱₀ c none) Set.univ
          (cc1__rows_body (grid1.coords t) M1 h1 M2 h2 M3 h3 M4 h4 M5 h5 M6 h6)
          fun _ => iprop(owns (c : Thread nD τ) M1 fullShare X1 ∗ owns (c : Thread nD τ) M2 fullShare X2 ∗ owns (c : Thread nD τ) M3 fullShare X3
            ∗ owns (c : Thread nD τ) M4 fullShare (step4 t.val X1 X2 Y4)
            ∗ owns (c : Thread nD τ) M5 fullShare (step5 t.val X3 Y5)
            ∗ owns (c : Thread nD τ) M6 fullShare (step6 t.val X3 Y6)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩⟩
  subst e1 e2 e3 e4 e5 e6
  have hz : (![0, 0] : Fin 2 → ℕ) = fun _ => 0 := by decide
  rcases fin_N1 t with rfl | rfl | rfl | rfl <;>
  · sl_unfold [cc1__rows_body]
    sl_exec (disch := decide)
    sl_step
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]
    · iexists _; isplitr; swap; · iexact H4
      ipureintro
      rw [readAt_all _ _ hz, readAt_all _ _ hz]
      first
        | exact read_put64 _ _ 0 _ _ _ _ (by decide) (by decide) _ _
        | exact read_put64 _ _ 1 _ _ _ _ (by decide) (by decide) _ _
        | exact read_put64 _ _ 2 _ _ _ _ (by decide) (by decide) _ _
        | exact read_put64 _ _ 3 _ _ _ _ (by decide) (by decide) _ _
    isplitl [H5]
    · iexists _; isplitr; swap; · iexact H5
      ipureintro
      first
        | rfl
        | (rw [readAt_all _ _ hz]
           first
             | exact read_put16 _ _ 0 _ _ (by decide) _
             | exact read_put16 _ _ 1 _ _ (by decide) _)
    iexists _; isplitr; swap; · iexact H6
    ipureintro
    first
      | rfl
      | (rw [readAt_all _ _ hz]
         first
           | exact read_put16 _ _ 0 _ _ (by decide) _
           | exact read_put16 _ _ 1 _ _ (by decide) _)

end Cert.Proof
-- ==== Proof.Final.lean ====
/-
  The second TensorCore call: one point, on whole arrays. It merges the SparseCore call's thirty-two rows of candidates with
  the sixteen of the first TensorCore call and adds the winner's flat position to the row argmaxes.
-/
module

public import proofs.«01_k».proof.Proof.Rows

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

omit [FloatOps F] in
/-- A store of the whole result: what is read back is what was stored. -/
theorem read_all64 {κ : Kind} {sp : Space} {e : EltTy} (v : View sig κ sp S64 e) (f : v.ty.Contents (Elt F))
    (o : Fin 1 → ℕ) (inb : ∀ a, o a + S64.size a ≤ S64.size a) (eo : o = ![0]) (w : S64.Idx → Elt F e) :
    v.read (Elt F) (v.writes (Elt F) f [⟨Rect.unit (s := S64) o S64.size inb, w⟩]) = w := by
  funext j
  exact View.read_writes_cons_unit_of_mem v f inb w _ j j eo fun a => by
    match a with
    | 0 => show (j 0).val = 0 + (j 0).val; omega

variable (c : Dev nD)

/-- The body on any whole buffers: the five inputs stay, the output takes the payload. -/
theorem merge_run (M1 : Memref sig .tc .vmem S32x16 .f32) (h1 : M1.IsWhole) (M2 : Memref sig .tc .vmem S32x16 .i32) (h2 : M2.IsWhole)
    (M3 : Memref sig .tc .vmem S16 .f32) (h3 : M3.IsWhole) (M4 : Memref sig .tc .vmem S16 .i32) (h4 : M4.IsWhole)
    (M5 : Memref sig .tc .vmem S64 .i32) (h5 : M5.IsWhole) (M6 : Memref sig .tc .vmem S64 .i32) (h6 : M6.IsWhole)
    (X1 : S32x16.Idx → F .f32) (X2 : S32x16.Idx → BitVec 32) (X3 : S16.Idx → F .f32) (X4 : S16.Idx → BitVec 32) (X5 Y6 : S64.Idx → BitVec 32) :
    (iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare Y6) : sProp (MM F))
      ⊢ wp frame (wpE (defs₀ (F := F)) 𝒱₀ c none) Set.univ
          (cc2__merge_body M1 h1 M2 h2 M3 h3 M4 h4 M5 h5 M6 h6)
          fun _ => iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare (k2_pay1 X1 X3 X1 X2 X3 X4 X5)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩⟩
  subst e1 e2 e3 e4 e5 e6
  have hz : (![0, 0] : Fin 2 → ℕ) = fun _ => 0 := by decide
  have hz1 : (![0] : Fin 1 → ℕ) = fun _ => 0 := by decide
  rw [cc2__merge_body_eq_skeleton]
  sl_unfold [cc2__merge_body_skel]
  sl_exec (disch := decide)
  sl_step
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr; swap; · iexact H6
  ipureintro
  rw [readAt_all M1.view _ hz, readAt_all M2.view _ hz, readAt_all M3.view _ hz1, readAt_all M4.view _ hz1, readAt_all M5.view _ hz1]
  exact read_all64 _ _ _ _ rfl _

end Cert.Proof
-- ==== Proof.Reg1.lean ====
/-
  The first TensorCore call as a pipeline region: the proof data of its six windows, and what its arrays hold at the end.
-/
module

public import proofs.«01_k».proof.Proof.Final

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline

variable {F : FTy → Type} [FloatOps F]

/-- No pipeline has a prefetched table. -/
abbrev adm : (p : Fin 2) → (pcfgs (F := F) p).Adm := fun p => (cfgs p).toPCfg_adm

/-- The (cell, index) pairs a core's waits may have recorded once the SparseCore call is over. -/
def low (c : Dev nD) : Set (SemLoc sig × HIx 1) := {p | (K (F := F)).lev (SparseCore.T c, p.1) p.2 ≤ 8 * 1}

/-- What the three results hold in the end, from the whole inputs. -/
def raF (y : S64x32768.Idx → F .f32) : S64.Idx → BitVec 32 := fun j => k1_pay1 (rowsOf y ((j 0).val / 8)) (in8 (j 0).val)
def xvF (x : S64x32768.Idx → F .f32) : S16.Idx → F .f32 := fun j => k1_pay4 (rowsOf x (6 + (j 0).val / 8)) (in8 (j 0).val)
def xiF (x : S64x32768.Idx → F .f32) : S16.Idx → BitVec 32 := fun j =>
  if (j 0).val / 8 = 0 then k1_pay5 (rowsOf x 6) (in8 (j 0).val) else k1_pay6 (rowsOf x 7) (in8 (j 0).val)

variable (m : (ℓ : Loc nD τ sig) → Buf (Elt F) ℓ)

/-- How each window's block changes at a point. -/
def after1 (c : Dev nD) : (w : Fin cfg1.W) → Fin cfg1.N → (Y X : (cfg1.win w).block.Idx → Elt F (cfg1.win w).elt) → Prop
  | 0 => fun _ _ _ => True
  | 1 => fun _ _ _ => True
  | 2 => fun _ _ _ => True
  | 3 => fun t Y X => X = step4 t.val (rowsOf (m (yLoc c)) t.val) (rowsOf (m (yLoc c)) (t.val + 4)) Y
  | 4 => fun t Y X => X = step5 t.val (rowsOf (m (xLoc c)) (6 + t.val)) Y
  | 5 => fun t Y X => X = step6 t.val (rowsOf (m (xLoc c)) (6 + t.val)) Y
  | ⟨_ + 6, h⟩ => absurd h (Nat.not_lt.2 (Nat.le_add_left _ _))

/-- The first call's proof data: `x2`'s two windows hold half its share each. -/
def rd1 (c : Dev nD) : RDat τ (Elt F) (HIx 1) ℕ UU ℕ cfg1 c where
  A w := m ((cfg1.win w).arr.view.loc (c : Thread nD τ))
  after := after1 m c
  Φ _ := scopedRest spec1 c
  q w := if w = 0 then Transfers.dealOf fullShare (Finset.univ : Finset (Fin 2)) 0
    else if w = 1 then Transfers.dealOf fullShare (Finset.univ : Finset (Fin 2)) 1 else fullShare
  owed _ := 0
  recorded _ := low (F := F) c

variable (c : Dev nD)

/-! ## The blocks fetched -/

omit [FloatOps F] in
theorem index1_0 : ∀ t : Fin grid1.N, win1_0.index t 0 = t.val ∧ win1_0.index t 1 = 0 := by decide
omit [FloatOps F] in
theorem index1_1 : ∀ t : Fin grid1.N, win1_1.index t 0 = t.val + 4 ∧ win1_1.index t 1 = 0 := by decide
omit [FloatOps F] in
theorem index1_2 : ∀ t : Fin grid1.N, t.val < 2 → win1_2.index t 0 = 6 + t.val ∧ win1_2.index t 1 = 0 := by decide
omit [FloatOps F] in
theorem fetch1_2 : ∀ t : Fin cfg1.N, t.val < 2 → (cfg1.win 2).fetch t = true :=
  (by decide +kernel : ∀ t : Fin grid1.N, t.val < 2 → win1_2.fetch t = true)

theorem fetched1_0 (t : Fin cfg1.N) (d) : (rd1 m c).fetched 0 t d = rowsOf (m (yLoc c)) t.val := by
  have ht : t.val < 4 := t.isLt.trans_eq N_1
  have e : (rd1 m c).blockOf 0 t = (cfg1.win 0).cut (cfg1.grid.coords t) (rowsOf (m (yLoc c)) t.val) := by
    funext j
    show m (yLoc c) _ = m (yLoc c) _
    congr 1
    funext a
    apply Fin.ext
    have h0 : (j 0).val < 8 := (j 0).isLt
    match a with
    | 0 =>
      blk_simp; rw [(index1_0 t).1]
      show t.val * 8 + (j 0).val = (8 * t.val + (j 0).val) % 64
      omega
    | 1 => blk_simp; rw [(index1_0 t).2, Nat.zero_mul, Nat.zero_add]; rfl
  unfold RDat.fetched
  rw [e, fill_of_clip_none 0 (cfg1.grid.coords t) (fun _ => rfl) d (rowsOf (m (yLoc c)) t.val)]
  exact Window.fill_cut _ _ _

theorem fetched1_1 (t : Fin cfg1.N) (d) : (rd1 m c).fetched 1 t d = rowsOf (m (yLoc c)) (t.val + 4) := by
  have ht : t.val < 4 := t.isLt.trans_eq N_1
  have e : (rd1 m c).blockOf 1 t = (cfg1.win 1).cut (cfg1.grid.coords t) (rowsOf (m (yLoc c)) (t.val + 4)) := by
    funext j
    show m (yLoc c) _ = m (yLoc c) _
    congr 1
    funext a
    apply Fin.ext
    have h0 : (j 0).val < 8 := (j 0).isLt
    match a with
    | 0 =>
      blk_simp; rw [(index1_1 t).1]
      show (t.val + 4) * 8 + (j 0).val = (8 * (t.val + 4) + (j 0).val) % 64
      omega
    | 1 => blk_simp; rw [(index1_1 t).2, Nat.zero_mul, Nat.zero_add]; rfl
  unfold RDat.fetched
  rw [e, fill_of_clip_none 1 (cfg1.grid.coords t) (fun _ => rfl) d (rowsOf (m (yLoc c)) (t.val + 4))]
  exact Window.fill_cut _ _ _

theorem fetched1_2 (t : Fin cfg1.N) (h2 : t.val < 2) (d) : (rd1 m c).fetched 2 t d = rowsOf (m (xLoc c)) (6 + t.val) := by
  have e : (rd1 m c).blockOf 2 t = (cfg1.win 2).cut (cfg1.grid.coords t) (rowsOf (m (xLoc c)) (6 + t.val)) := by
    funext j
    show m (xLoc c) _ = m (xLoc c) _
    congr 1
    funext a
    apply Fin.ext
    have h0 : (j 0).val < 8 := (j 0).isLt
    match a with
    | 0 =>
      blk_simp; rw [(index1_2 t h2).1]
      show (6 + t.val) * 8 + (j 0).val = (8 * (6 + t.val) + (j 0).val) % 64
      omega
    | 1 => blk_simp; rw [(index1_2 t h2).2, Nat.zero_mul, Nat.zero_add]; rfl
  unfold RDat.fetched
  rw [e, fill_of_clip_none 2 (cfg1.grid.coords t) (fun _ => rfl) d (rowsOf (m (xLoc c)) (6 + t.val))]
  exact Window.fill_cut _ _ _

/-! ## The body obligation -/

theorem step5_ge (n : ℕ) (hn : ¬ n < 2) (X X' : S8x32768.Idx → F .f32) (Y) : step5 n X Y = step5 n X' Y := by
  unfold step5; rw [if_neg hn, if_neg hn]
theorem step6_ge (n : ℕ) (hn : ¬ n < 2) (X X' : S8x32768.Idx → F .f32) (Y) : step6 n X Y = step6 n X' Y := by
  unfold step6; rw [if_neg (by omega), if_neg (by omega), if_neg (by omega), if_neg (by omega)]

theorem body1 : (rd1 m c).BodyObligation defs₀ 𝒱₀ none Set.univ := fun t Y hY => by
  rw [bigSep_W1, bigSep_W1]
  have e0 : Y 0 = rowsOf (m (yLoc c)) t.val := by
    obtain ⟨d, hd⟩ := ((rd1 m c).finds_of_fetch (fetch1_0 t) _).mp (hY 0); rw [hd, fetched1_0]
  have e1 : Y 1 = rowsOf (m (yLoc c)) (t.val + 4) := by
    obtain ⟨d, hd⟩ := ((rd1 m c).finds_of_fetch (fetch1_1 t) _).mp (hY 1); rw [hd, fetched1_1]
  have e2 : t.val < 2 → Y 2 = rowsOf (m (xLoc c)) (6 + t.val) := fun h => by
    obtain ⟨d, hd⟩ := ((rd1 m c).finds_of_fetch (fetch1_2 t h) _).mp (hY 2); rw [hd, fetched1_2 m c t h]
  have e5 : ∀ Z, step5 t.val (Y 2) Z = step5 t.val (rowsOf (m (xLoc c)) (6 + t.val)) Z := fun Z => by
    by_cases h : t.val < 2
    · rw [e2 h]
    · exact step5_ge _ h _ _ _
  have e6 : ∀ Z, step6 t.val (Y 2) Z = step6 t.val (rowsOf (m (xLoc c)) (6 + t.val)) Z := fun Z => by
    by_cases h : t.val < 2
    · rw [e2 h]
    · exact step6_ge _ h _ _ _
  rw [show (rd1 m c).owesAt none t.succ = (rd1 m c).owesAt none t.castSucc from rfl,
    show (rd1 m c).Φ t.succ = (rd1 m c).Φ t.castSucc from rfl]
  have hrun := rows_run c t (win1_0.stage (cfg1.slots t 0)) (win1_1.stage (cfg1.slots t 1)) (win1_2.stage (cfg1.slots t 2))
    (hstage1_0 ((cfg1.slots t 0).cast nbuf1_0)) (hstage1_1 ((cfg1.slots t 1).cast nbuf1_1)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) (Y 0) (Y 1) (Y 2) (Y 3) (Y 4) (Y 5)
  rw [e5, e6] at hrun
  iintro ⟨HΦ, HO, H0, H1, H2, H3, H4, H5⟩
  iapply (wp_wand_r frame (wpE (defs₀ (F := F)) 𝒱₀ (c : Thread nD τ) none) Set.univ)
  isplitl [H0 H1 H2 H3 H4 H5]
  · iapply hrun
    isplitl [H0]; · iexact H0
    isplitl [H1]; · iexact H1
    isplitl [H2]; · iexact H2
    isplitl [H3]; · iexact H3
    isplitl [H4]; · iexact H4
    iexact H5
  iintro %u ⟨H0, H1, H2, H3, H4, H5⟩
  isplitl [HΦ]; · iexact HΦ
  isplitl [HO]; · iexact HO
  isplitl [H0]; · iexists (Y 0); isplitr; · ipureintro; exact trivial
                  iexact H0
  isplitl [H1]; · iexists (Y 1); isplitr; · ipureintro; exact trivial
                  iexact H1
  isplitl [H2]; · iexists (Y 2); isplitr; · ipureintro; exact trivial
                  iexact H2
  isplitl [H3]; · iexists _; isplitr; swap; · iexact H3
                  ipureintro
                  show step4 t.val (Y 0) (Y 1) (Y 3) = step4 t.val (rowsOf (m (yLoc c)) t.val) (rowsOf (m (yLoc c)) (t.val + 4)) (Y 3)
                  rw [e0, e1]
  isplitl [H4]; · iexists _; isplitr; swap; · iexact H4
                  ipureintro; exact rfl
  iexists _; isplitr; swap; · iexact H5
  ipureintro; exact rfl

/-! ## The results at the end -/

omit [FloatOps F] in
theorem lt1 {n : ℕ} (h : n < 4) : n < cfg1.N := h.trans_eq N_1.symm

omit [FloatOps F] in
theorem outs1 (w : Fin cfg1.W) (hw : 3 ≤ w.val) (n : ℕ) (h : n + 1 < 4) :
    (cfg1.win w).fetch ⟨n + 1, lt1 h⟩ = false ∧ (cfg1.win w).flush ⟨n, lt1 (Nat.lt_of_succ_lt h)⟩ = false :=
  (by decide +kernel : ∀ w : Fin 6, 3 ≤ w.val → ∀ n : Fin 3,
    (win1 w).fetch ⟨n.val + 1, lt1 (Nat.succ_lt_succ n.isLt)⟩ = false ∧ (win1 w).flush ⟨n.val, lt1 (n.isLt.trans (by decide))⟩ = false)
    w hw ⟨n, Nat.lt_of_succ_lt_succ h⟩

/-- A result's block is carried from a point to the next. -/
theorem carried (w : Fin cfg1.W) (hw : 3 ≤ w.val) (n : ℕ) (h : n + 1 < 4) {X} (hX : (rd1 m c).Finds w ⟨n + 1, lt1 h⟩ X) :
    (rd1 m c).Leaves w ⟨n, lt1 (Nat.lt_of_succ_lt h)⟩ X := by
  rcases ((rd1 m c).finds_of_pos (outs1 w hw n h).1 (Nat.succ_ne_zero n) X).mp hX with h1 | h1
  · exact absurd ((outs1 w hw n h).2.symm.trans h1) Bool.false_ne_true
  · exact h1

theorem put_chain {α : Type} (w0 w1 : ℕ → S8.Idx → α) (Y : S64.Idx → α) :
    put64 3 (w0 3) (w1 3) (put64 2 (w0 2) (w1 2) (put64 1 (w0 1) (w1 1) (put64 0 (w0 0) (w1 0) Y)))
      = fun j => if (j 0).val / 8 < 4 then w0 ((j 0).val / 8) (in8 (j 0).val) else w1 ((j 0).val / 8 - 4) (in8 (j 0).val) := by
  funext j
  have hj : (j 0).val < 64 := (j 0).isLt
  simp only [put64]
  obtain h | h | h | h | h | h | h | h : (j 0).val / 8 = 0 ∨ (j 0).val / 8 = 1 ∨ (j 0).val / 8 = 2 ∨ (j 0).val / 8 = 3 ∨ (j 0).val / 8 = 4
      ∨ (j 0).val / 8 = 5 ∨ (j 0).val / 8 = 6 ∨ (j 0).val / 8 = 7 := by omega
  all_goals simp [h]

theorem leaves3 {X} (h : (rd1 m c).Leaves 3 t1_3 X) : X = raF (m (yLoc c)) := by
  obtain ⟨Y3, h3, rfl⟩ := h
  obtain ⟨Y2, h2, rfl⟩ := carried m c 3 (by decide) 2 (by decide) h3
  obtain ⟨Y1, h1, rfl⟩ := carried m c 3 (by decide) 1 (by decide) h2
  obtain ⟨Y0, h0, rfl⟩ := carried m c 3 (by decide) 0 (by decide) h1
  refine (put_chain (fun n => k1_pay1 (rowsOf (m (yLoc c)) n)) (fun n => k1_pay1 (rowsOf (m (yLoc c)) (n + 4))) Y0).trans (funext fun j => ?_)
  by_cases hj : (j 0).val / 8 < 4
  · simp only [if_pos hj]; rfl
  · simp only [if_neg hj]; rw [Nat.sub_add_cancel (Nat.le_of_not_lt hj)]; rfl

theorem leaves4 {X} (h : (rd1 m c).Leaves 4 t1_3 X) : X = xvF (m (xLoc c)) := by
  obtain ⟨Y3, h3, rfl⟩ := h
  obtain ⟨Y2, h2, rfl⟩ := carried m c 4 (by decide) 2 (by decide) h3
  obtain ⟨Y1, h1, rfl⟩ := carried m c 4 (by decide) 1 (by decide) h2
  obtain ⟨Y0, h0, rfl⟩ := carried m c 4 (by decide) 0 (by decide) h1
  show put16 1 (k1_pay4 (rowsOf (m (xLoc c)) 7)) (put16 0 (k1_pay4 (rowsOf (m (xLoc c)) 6)) Y0) = xvF (m (xLoc c))
  funext j
  have hj : (j 0).val < 16 := (j 0).isLt
  unfold put16 xvF
  obtain h | h : (j 0).val / 8 = 0 ∨ (j 0).val / 8 = 1 := by omega
  all_goals simp [h]

theorem leaves5 {X} (h : (rd1 m c).Leaves 5 t1_3 X) : X = xiF (m (xLoc c)) := by
  obtain ⟨Y3, h3, rfl⟩ := h
  obtain ⟨Y2, h2, rfl⟩ := carried m c 5 (by decide) 2 (by decide) h3
  obtain ⟨Y1, h1, rfl⟩ := carried m c 5 (by decide) 1 (by decide) h2
  obtain ⟨Y0, h0, rfl⟩ := carried m c 5 (by decide) 0 (by decide) h1
  show put16 1 (k1_pay6 (rowsOf (m (xLoc c)) 7)) (put16 0 (k1_pay5 (rowsOf (m (xLoc c)) 6)) Y0) = xiF (m (xLoc c))
  funext j
  have hj : (j 0).val < 16 := (j 0).isLt
  unfold put16 xiF
  obtain h | h : (j 0).val / 8 = 0 ∨ (j 0).val / 8 = 1 := by omega
  all_goals simp [h]

/-- The three result arrays after the last point. -/
theorem arr3 {G} (h : (rd1 m c).ArrAt 3 cfg1.N G) : G = raF (m (yLoc c)) := by
  obtain ⟨X, hX, hj⟩ := h.emb_eq_of_wholeAt (t₀ := t1_3) (by decide +kernel)
  funext j
  rw [← leaves3 m c hX]; exact hj j
theorem arr4 {G} (h : (rd1 m c).ArrAt 4 cfg1.N G) : G = xvF (m (xLoc c)) := by
  obtain ⟨X, hX, hj⟩ := h.emb_eq_of_wholeAt (t₀ := t1_3) (by decide +kernel)
  funext j
  rw [← leaves4 m c hX]; exact hj j
theorem arr5 {G} (h : (rd1 m c).ArrAt 5 cfg1.N G) : G = xiF (m (xLoc c)) := by
  obtain ⟨X, hX, hj⟩ := h.emb_eq_of_wholeAt (t₀ := t1_3) (by decide +kernel)
  funext j
  rw [← leaves5 m c hX]; exact hj j

end Cert.Proof
-- ==== Proof.Merge.lean ====
/-
  The tail of a tile's task, payload by payload: the printed merges of the three chunks' candidates are the functions of Fns.lean.
-/
module

public import proofs.«01_k».proof.Proof.Fns
public import proofs.«01_k».proof.Proof.Gen.KernelIdeal.Skeleton

@[expose] public section

noncomputable section

namespace Cert.Proof

open Idealize.ShloMosaic
open Cert.KernelIdeal Cert.KernelIdeal.Gen

variable {F : FTy → Type} [FloatOps F]

/-! Two candidates, or four, at a time. -/

section Small

variable (p : Fam F) (a b c e w : Cand F)

theorem m103 : k0_pay103 (p.1 0) (p.1 1) (p.1 2) (p.1 3) (k0_pay81 (p.2 0)) (k0_pay82 (p.2 1)) (k0_pay83 (p.2 2)) (k0_pay84 (p.2 3))
    = (win2 (win2 (cand p 0) (cand p 1)) (win2 (cand p 2) (cand p 3))).1 := rfl
theorem m104 : k0_pay104 (p.1 0) (p.1 1) (p.1 2) (p.1 3) (k0_pay81 (p.2 0)) (k0_pay82 (p.2 1)) (k0_pay83 (p.2 2)) (k0_pay84 (p.2 3))
    = (win2 (win2 (cand p 0) (cand p 1)) (win2 (cand p 2) (cand p 3))).2 := rfl
theorem m106 : k0_pay106 (p.1 4) (p.1 5) (p.1 6) (p.1 7) (p.2 6) (p.2 7) (iota .scVector S16 32 [0] iota_S16_d0_w32_scVector)
    (k0_pay85 (p.2 4)) (k0_pay86 (p.2 5)) = (win2 (win2 (cand p 4) (cand p 5)) (win2 (cand p 6) (cand p 7))).1 := rfl
theorem m107 : k0_pay107 (p.1 4) (p.1 5) (p.1 6) (p.1 7) (p.2 6) (p.2 7) (iota .scVector S16 32 [0] iota_S16_d0_w32_scVector)
    (k0_pay85 (p.2 4)) (k0_pay86 (p.2 5)) = (win2 (win2 (cand p 4) (cand p 5)) (win2 (cand p 6) (cand p 7))).2 := rfl
theorem m109 : k0_pay109 a.1 a.2 b.1 b.2 = (win2 a b).1 := rfl
theorem m110 : k0_pay110 a.1 a.2 b.1 b.2 = (shift 0#32 (win2 a b)).2 := rfl

theorem m153 : k0_pay153 (p.1 0) (p.1 1) (p.2 1) (iota .scVector S16 32 [0] iota_S16_d0_w32_scVector) (k0_pay143 (p.2 0))
    = (win2 (cand p 0) (cand p 1)).1 := rfl
theorem m154 : k0_pay154 (p.1 0) (p.1 1) (p.2 1) (iota .scVector S16 32 [0] iota_S16_d0_w32_scVector) (k0_pay143 (p.2 0))
    = (win2 (cand p 0) (cand p 1)).2 := rfl
theorem m168 : k0_pay168 a.1 b.1 a.2 b.2 w.1 w.2 (cmpf .ogt a.1 b.1) (cmpf .oeq a.1 b.1) (cmpi .slt a.2 b.2) = (win2 w (win2 a b)).1 := rfl
theorem m169 : k0_pay169 a.1 b.1 a.2 b.2 w.1 w.2 (cmpf .ogt a.1 b.1) (cmpf .oeq a.1 b.1) (cmpi .slt a.2 b.2) = (win2 w (win2 a b)).2 := rfl
theorem m171 : k0_pay171 a.1 b.1 c.1 e.1 a.2 b.2 c.2 e.2 = (win2 (win2 a b) (win2 c e)).1 := rfl
theorem m172 : k0_pay172 a.1 b.1 c.1 e.1 a.2 b.2 c.2 e.2 = (win2 (win2 a b) (win2 c e)).2 := rfl

theorem m226 : k0_pay226 (p.1 4) (p.1 5) (p.2 5) (iota .scVector S16 32 [0] iota_S16_d0_w32_scVector) (k0_pay214 (p.2 4))
    = (win2 (cand p 4) (cand p 5)).1 := rfl
theorem m227 : k0_pay227 (p.1 4) (p.1 5) (p.2 5) (iota .scVector S16 32 [0] iota_S16_d0_w32_scVector) (k0_pay214 (p.2 4))
    = (win2 (cand p 4) (cand p 5)).2 := rfl
theorem m229 : k0_pay229 (p.1 6) (p.1 7) (p.2 6) (p.2 7) (iota .scVector S16 32 [0] iota_S16_d0_w32_scVector)
    = (win2 (cand p 6) (cand p 7)).1 := rfl
theorem m230 : k0_pay230 (p.1 6) (p.1 7) (p.2 6) (p.2 7) (iota .scVector S16 32 [0] iota_S16_d0_w32_scVector)
    = (win2 (cand p 6) (cand p 7)).2 := rfl
theorem m232 : k0_pay232 (p.1 0) (p.1 1) (p.1 2) (p.1 3) (k0_pay210 (p.2 0)) (k0_pay211 (p.2 1)) (k0_pay212 (p.2 2)) (k0_pay213 (p.2 3))
    = (win2 (win2 (cand p 0) (cand p 1)) (win2 (cand p 2) (cand p 3))).1 := rfl
theorem m233 : k0_pay233 (p.1 0) (p.1 1) (p.1 2) (p.1 3) (k0_pay210 (p.2 0)) (k0_pay211 (p.2 1)) (k0_pay212 (p.2 2)) (k0_pay213 (p.2 3))
    = (win2 (win2 (cand p 0) (cand p 1)) (win2 (cand p 2) (cand p 3))).2 := rfl

/-- The second chunk against the first. -/
theorem m176 (c2 c3 c4 c5 c6 c7 : Cand F) : k0_pay176 a.1 c2.1 c3.1 c4.1 c5.1 c6.1 c7.1 c2.2 c3.2 c4.2 c5.2 c6.2 c7.2 w.1 w.2
      (cmpf .ogt c2.1 c3.1) (cmpf .oeq c2.1 c3.1) (cmpi .slt c2.2 c3.2)
    = (winStrict (shift 16384#32 (win2 (win2 w (win2 c2 c3)) (win2 (win2 c4 c5) (win2 c6 c7)))) a).1 := by
  unfold k0_pay176 k0_pay175 k0_pay174 k0_pay173
  simp only [m168, m169, m171, m172]
  rfl
theorem m177 (c2 c3 c4 c5 c6 c7 : Cand F) : k0_pay177 a.1 a.2 c2.1 c3.1 c4.1 c5.1 c6.1 c7.1 c2.2 c3.2 c4.2 c5.2 c6.2 c7.2 w.1 w.2
      (cmpf .ogt c2.1 c3.1) (cmpf .oeq c2.1 c3.1) (cmpi .slt c2.2 c3.2)
    = (winStrict (shift 16384#32 (win2 (win2 w (win2 c2 c3)) (win2 (win2 c4 c5) (win2 c6 c7)))) a).2 := by
  unfold k0_pay177 k0_pay175 k0_pay174 k0_pay173
  simp only [m168, m169, m171, m172]
  rfl
/-- The third chunk against the best of those. -/
theorem m240 : k0_pay240 a.1 b.1 b.2 c.1 c.2 e.1 e.2
    = shapeCast S16 (winStrict (shift 32768#32 (win2 e (win2 b c))) a).1 shapeCasts_S16_S16 := rfl
theorem m241 (o : BitVec 32) : k0_pay241 o a.1 a.2 b.1 b.2 c.1 c.2 e.1 e.2
    = shapeCast S16 (addi (broadcast S16 (Scalar.muli o 49152#32)) (winStrict (shift 32768#32 (win2 e (win2 b c))) a).2) shapeCasts_S16_S16 := rfl

end Small

end Cert.Proof
-- ==== Proof.Tile.lean ====
/-
  One tile's run, at a symbolic (SparseCore, tile) pair: the three copies in, the three scans, the two copies out.
-/
module

public import proofs.«01_k».proof.Proof.Setup
public import proofs.«01_k».proof.Proof.Merge
public import Idealize.ShloMosaic.Lib.Tactic.Stretches

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Run

variable (d : Dev nD) (L : grid0.Coords)

/-- A scan's invariant: the buffer still reads `g`, and the carry is what `k` trips of the scan leave. -/
def inv (bV : Memref sig .scVector .vmem S16384 .f32) (g : S16384.Idx → F .f32) (k : ℕ) (acc : Carry F) : sProp (MM F) :=
  iprop(∃ f, ⌜acc = tup (scan g k) ∧ bV.view.read (Elt F) f = g⌝ ∗ (bV.view.loc (VT d L) ↦[bV.view.set]{fullShare} f))

omit [FloatOps F] in
/-- A load of sixteen words at `128 k + 16 u` of a chunk. -/
theorem readAt_ld {sp : Space} (v : View sig .scVector sp S16384 .f32) (f : v.ty.Contents (Elt F)) (off : Fin 1 → ℕ)
    (inb : ∀ a, off a + S16.size a ≤ S16384.size a) (k u : ℕ) (h : off = ![128 * k + 16 * u]) :
    v.readAt (Elt F) (Rect.unit (s := S16384) off S16.size inb).toLoadRect f = ld (v.read (Elt F) f) k u := by
  subst h
  funext j
  refine congrArg (v.read (Elt F) f) (funext fun a => Fin.ext ?_)
  have h0 := inb 0
  have hj : (j 0).val < 16 := (j 0).isLt
  match a with
  | 0 =>
    show 128 * k + 16 * u + 1 * (j 0).val = (128 * k + 16 * u + (j 0).val) % 16384
    have h1 : 128 * k + 16 * u + 16 ≤ 16384 := h0
    rw [Nat.mod_eq_of_lt (by omega)]; omega

omit [FloatOps F] in
theorem read_one {κ : Kind} {sp : Space} {s : Shape} {e : EltTy} (v : View sig κ sp s e) (f : v.ty.Contents (Elt F)) (w : s.Idx → Elt F e) :
    v.read (Elt F) (v.writes (Elt F) f [⟨Rect.whole s, w⟩]) = w := by
  funext j
  have := v.read_writes_cons_emb (Val := Elt F) (f := f) (Rect.whole s) w [] j
  rwa [show (Rect.whole s).emb j = j from Rect.emb_whole_apply s j] at this

theorem iv_nat (k : ℕ) : Scf.iv 0#32 1#32 k = BitVec.ofNat 32 k := by
  simp [Scf.iv]

omit [FloatOps F] in
theorem read_unit16 {κ : Kind} {sp : Space} {e : EltTy} (v : View sig κ sp S16 e) (f : v.ty.Contents (Elt F)) (inb) (w : S16.Idx → Elt F e) :
    v.read (Elt F) (v.writes (Elt F) f [⟨Rect.unit ![0] S16.size inb, w⟩]) = w := by
  funext j
  have := v.read_writes_cons_emb (Val := Elt F) (f := f) (Rect.unit ![0] S16.size inb) w [] j
  rwa [show (Rect.unit (s := S16) ![0] S16.size inb).emb j = j from funext fun a => Fin.ext (by
    match a with
    | 0 => show 0 + 1 * (j 0).val = _; omega)] at this

theorem trips1 : Scf.trips k0_t1_loop.lb k0_t1_loop.ub k0_t1_loop.st = 128 := by decide

/-- What the three copies bring: the three half-rows. -/
abbrev g0 (fx : Buf (Elt F) (xLoc d)) : S16384.Idx → F .f32 := (xs0 L).view.read (Elt F) fx
abbrev g1 (fx : Buf (Elt F) (xLoc d)) : S16384.Idx → F .f32 := (xs1 L).view.read (Elt F) fx
abbrev g2 (fx : Buf (Elt F) (xLoc d)) : S16384.Idx → F .f32 := (xs2 L).view.read (Elt F) fx

theorem tile_run (fx : Buf (Elt F) (xLoc d)) (q : PosShare TreeShare) (O : CellTallies nD τ sig (HIx 1)) (W : Waits sig (HIx 1))
    (fp : Buf (Elt F) (pvLoc d)) (fi : Buf (Elt F) (piLoc d))
    (f0 : Buf (Elt F) ((VT d L).loc cc0_scratch0)) (f1 : Buf (Elt F) ((VT d L).loc cc0_scratch1)) (f2 : Buf (Elt F) ((VT d L).loc cc0_scratch2))
    (fv : Buf (Elt F) ((VT d L).loc cc0_scratch3)) (fj : Buf (Elt F) ((VT d L).loc cc0_scratch4)) :
    (iprop(Transfers.MayWaits (VT d L) (default : HIx 1) O
        ∗ ((xV).view.loc (VT d L) ↦{Transfers.shareTokN q 0} fx) ∗ ((xV).view.loc (VT d L) ↦{Transfers.shareTokN q 1} fx) ∗ ((xV).view.loc (VT d L) ↦{Transfers.shareTokN q 2} fx)
        ∗ ((pvR L).view.loc (VT d L) ↦[(pvR L).view.set]{fullShare} fp)
        ∗ ((piR L).view.loc (VT d L) ↦[(piR L).view.set]{fullShare} fi)
        ∗ ((b0V).view.loc (VT d L) ↦[(b0V).view.set]{fullShare} f0)
        ∗ ((b1V).view.loc (VT d L) ↦[(b1V).view.set]{fullShare} f1)
        ∗ ((b2V).view.loc (VT d L) ↦[(b2V).view.set]{fullShare} f2)
        ∗ ((vV).view.loc (VT d L) ↦[(vV).view.set]{fullShare} fv)
        ∗ ((iV).view.loc (VT d L) ↦[(iV).view.set]{fullShare} fj)
        ∗ cells0 d L
        ∗ owes (VT d L) O W) : sProp (MM F))
      ⊢ wp frame (wpE (defs₀ (F := F)) 𝒱₀ (VT d L) none) Set.univ
          (cc0__sc_body L xV (Memref.isWhole_whole _) pvV (Memref.isWhole_whole _) piV (Memref.isWhole_whole _) b0V (Memref.isWhole_whole _)
            b1V (Memref.isWhole_whole _) b2V (Memref.isWhole_whole _) vV (Memref.isWhole_whole _) iV (Memref.isWhole_whole _)
            cc0_scratch5 cc0_scratch6 cc0_scratch7 cc0_scratch8 cc0_scratch9)
          fun _ => iprop(((xV).view.loc (VT d L) ↦{Transfers.shareTokN q 0} fx) ∗ ((xV).view.loc (VT d L) ↦{Transfers.shareTokN q 1} fx) ∗ ((xV).view.loc (VT d L) ↦{Transfers.shareTokN q 2} fx)
            ∗ (∃ f, ⌜(pvR L).view.read (Elt F) f = tileV (g0 d L fx) (g1 d L fx) (g2 d L fx)⌝ ∗ ((pvR L).view.loc (VT d L) ↦[(pvR L).view.set]{fullShare} f))
            ∗ (∃ f, ⌜(piR L).view.read (Elt F) f = tileI (widW L) (g0 d L fx) (g1 d L fx) (g2 d L fx)⌝ ∗ ((piR L).view.loc (VT d L) ↦[(piR L).view.set]{fullShare} f))
            ∗ (∃ f, (b0V).view.loc (VT d L) ↦[(b0V).view.set]{fullShare} f)
            ∗ (∃ f, (b1V).view.loc (VT d L) ↦[(b1V).view.set]{fullShare} f)
            ∗ (∃ f, (b2V).view.loc (VT d L) ↦[(b2V).view.set]{fullShare} f)
            ∗ (∃ f, (vV).view.loc (VT d L) ↦[(vV).view.set]{fullShare} f)
            ∗ (∃ f, (iV).view.loc (VT d L) ↦[(iV).view.set]{fullShare} f)
            ∗ cells0 d L
            ∗ ∃ W', owes (VT d L) O W') := by
  iintro ⟨#Hmw, Hx0, Hx1, Hx2, Hp, Hi, Hb0, Hb1, Hb2, Hv, Hj, ⟨Hc0, Hc1, Hc2, Hc3, Hc4⟩, HO⟩
  sl_unfold [cc0__sc_body]
  sl_exec
  sl_for (inv d L b0V (g0 d L fx)) $$ [Hb0]
  case region =>
    intro k acc
    unfold inv
    iintro ⟨%f, %hacc, Hb⟩
    obtain ⟨rfl, hf⟩ := hacc
    sl_exec
    sl_step
    iexists f
    isplitr
    · ipureintro
      refine ⟨?_, hf⟩
      sl_open_run
      rw [readAt_ld _ f _ _ k.val 0 (show k0_off2 k 0#32 = _ from k0_off2_eq k 0), readAt_ld _ f _ _ k.val 1 (show k0_off2 k 1#32 = _ from k0_off2_eq k 1), readAt_ld _ f _ _ k.val 2 (show k0_off2 k 2#32 = _ from k0_off2_eq k 2),
        readAt_ld _ f _ _ k.val 3 (show k0_off2 k 3#32 = _ from k0_off2_eq k 3), readAt_ld _ f _ _ k.val 4 (show k0_off2 k 4#32 = _ from k0_off2_eq k 4), readAt_ld _ f _ _ k.val 5 (show k0_off2 k 5#32 = _ from k0_off2_eq k 5),
        readAt_ld _ f _ _ k.val 6 (show k0_off2 k 6#32 = _ from k0_off2_eq k 6), readAt_ld _ f _ _ k.val 7 (show k0_off2 k 7#32 = _ from k0_off2_eq k 7), hf]
      sl_open_pay
      simp only [iv_nat]
      rfl
    · iexact Hb
  · unfold inv
    iexists _
    isplitr
    rotate_left
    · iexact Hb0
    · ipureintro
      exact ⟨rfl, by rw [read_one]; rfl⟩
  iintro %acc0 HI
  unfold inv
  icases HI with ⟨%h0, %hacc0, Hb0⟩
  obtain ⟨rfl, hf0⟩ := hacc0
  sl_exec
  sl_for (inv d L b1V (g1 d L fx)) $$ [Hb1]
  case region =>
    intro k acc
    unfold inv
    iintro ⟨%f, %hacc, Hb⟩
    obtain ⟨rfl, hf⟩ := hacc
    sl_exec
    sl_step
    iexists f
    isplitr
    · ipureintro
      refine ⟨?_, hf⟩
      sl_open_run
      rw [readAt_ld _ f _ _ k.val 0 (show k0_off3 k 0#32 = _ from k0_off3_eq k 0), readAt_ld _ f _ _ k.val 1 (show k0_off3 k 1#32 = _ from k0_off3_eq k 1), readAt_ld _ f _ _ k.val 2 (show k0_off3 k 2#32 = _ from k0_off3_eq k 2),
        readAt_ld _ f _ _ k.val 3 (show k0_off3 k 3#32 = _ from k0_off3_eq k 3), readAt_ld _ f _ _ k.val 4 (show k0_off3 k 4#32 = _ from k0_off3_eq k 4), readAt_ld _ f _ _ k.val 5 (show k0_off3 k 5#32 = _ from k0_off3_eq k 5),
        readAt_ld _ f _ _ k.val 6 (show k0_off3 k 6#32 = _ from k0_off3_eq k 6), readAt_ld _ f _ _ k.val 7 (show k0_off3 k 7#32 = _ from k0_off3_eq k 7), hf]
      sl_open_pay
      simp only [iv_nat]
      rfl
    · iexact Hb
  · unfold inv
    iexists _
    isplitr
    rotate_left
    · iexact Hb1
    · ipureintro
      exact ⟨rfl, by rw [read_one]; rfl⟩
  iintro %acc1 HI
  unfold inv
  icases HI with ⟨%h1, %hacc1, Hb1⟩
  obtain ⟨rfl, hf1⟩ := hacc1
  sl_exec
  sl_for (inv d L b2V (g2 d L fx)) $$ [Hb2]
  case region =>
    intro k acc
    unfold inv
    iintro ⟨%f, %hacc, Hb⟩
    obtain ⟨rfl, hf⟩ := hacc
    sl_exec
    sl_step
    iexists f
    isplitr
    · ipureintro
      refine ⟨?_, hf⟩
      sl_open_run
      rw [readAt_ld _ f _ _ k.val 0 (show k0_off4 k 0#32 = _ from k0_off4_eq k 0), readAt_ld _ f _ _ k.val 1 (show k0_off4 k 1#32 = _ from k0_off4_eq k 1), readAt_ld _ f _ _ k.val 2 (show k0_off4 k 2#32 = _ from k0_off4_eq k 2),
        readAt_ld _ f _ _ k.val 3 (show k0_off4 k 3#32 = _ from k0_off4_eq k 3), readAt_ld _ f _ _ k.val 4 (show k0_off4 k 4#32 = _ from k0_off4_eq k 4), readAt_ld _ f _ _ k.val 5 (show k0_off4 k 5#32 = _ from k0_off4_eq k 5),
        readAt_ld _ f _ _ k.val 6 (show k0_off4 k 6#32 = _ from k0_off4_eq k 6), readAt_ld _ f _ _ k.val 7 (show k0_off4 k 7#32 = _ from k0_off4_eq k 7), hf]
      sl_open_pay
      simp only [iv_nat]
      rfl
    · iexact Hb
  · unfold inv
    iexists _
    isplitr
    rotate_left
    · iexact Hb2
    · ipureintro
      exact ⟨rfl, by rw [read_one]; rfl⟩
  iintro %acc2 HI
  unfold inv
  icases HI with ⟨%h2, %hacc2, Hb2⟩
  obtain ⟨rfl, hf2⟩ := hacc2
  sl_exec
  sl_step
  have hv : (pvR L).view.read (Elt F) ((pvR L).view.writes (Elt F) fp [⟨Rect.whole S16, tile_run.sl.dma4 d L fx fv⟩])
      = tileV (g0 d L fx) (g1 d L fx) (g2 d L fx) := by
    rw [read_one]
    sl_open_run
    rw [ReadAs.apply_same, read_unit16, trips1]
    unfold tileV tileBest chunk
    generalize scan (g0 d L fx) 128 = p0
    generalize scan (g1 d L fx) 128 = p1
    generalize scan (g2 d L fx) 128 = p2
    simp only [m103, m104, m106, m107, m109, m110, m153, m154, m226, m227, m229, m230, m232, m233]
    refine Eq.trans (congrArg (fun v => k0_pay240 v _ _ _ _ _ _) (m176 (shift 0#32 (merge8 p0)) (win2 (cand p1 0) (cand p1 1)) (cand p1 2) (cand p1 3) (cand p1 4) (cand p1 5) (cand p1 6) (cand p1 7))) ?_
    exact m240 (winStrict (shift 16384#32 (merge8 p1)) (shift 0#32 (merge8 p0))) (win2 (cand p2 4) (cand p2 5)) (win2 (cand p2 6) (cand p2 7))
      (win2 (win2 (cand p2 0) (cand p2 1)) (win2 (cand p2 2) (cand p2 3)))
  have hi : (piR L).view.read (Elt F) ((piR L).view.writes (Elt F) fi [⟨Rect.whole S16, tile_run.sl.dma4_1 d L fx fj⟩])
      = tileI (widW L) (g0 d L fx) (g1 d L fx) (g2 d L fx) := by
    rw [read_one]
    sl_open_run
    rw [ReadAs.apply_same, read_unit16, trips1]
    unfold tileI tileBest chunk
    generalize scan (g0 d L fx) 128 = p0
    generalize scan (g1 d L fx) 128 = p1
    generalize scan (g2 d L fx) 128 = p2
    simp only [m103, m104, m106, m107, m109, m110, m153, m154, m226, m227, m229, m230, m232, m233]
    refine Eq.trans (congrArg₂ (fun v i => k0_pay241 _ v i _ _ _ _ _ _) (m176 (shift 0#32 (merge8 p0)) (win2 (cand p1 0) (cand p1 1)) (cand p1 2) (cand p1 3) (cand p1 4) (cand p1 5) (cand p1 6) (cand p1 7))
      (m177 (shift 0#32 (merge8 p0)) (win2 (cand p1 0) (cand p1 1)) (cand p1 2) (cand p1 3) (cand p1 4) (cand p1 5) (cand p1 6) (cand p1 7))) ?_
    exact m241 (winStrict (shift 16384#32 (merge8 p1)) (shift 0#32 (merge8 p0))) (win2 (cand p2 4) (cand p2 5)) (win2 (cand p2 6) (cand p2 7))
      (win2 (win2 (cand p2 0) (cand p2 1)) (win2 (cand p2 2) (cand p2 3))) _
  isplitl [Hx0]; · iexact Hx0
  isplitl [Hx1]; · iexact Hx1
  isplitl [Hx2]; · iexact Hx2
  isplitl [Hp]
  · iexists _; isplitr
    · ipureintro; exact hv
    · iexact Hp
  isplitl [Hi]
  · iexists _; isplitr
    · ipureintro; exact hi
    · iexact Hi
  isplitl [Hb0]; · iexists _; iexact Hb0
  isplitl [Hb1]; · iexists _; iexact Hb1
  isplitl [Hb2]; · iexists _; iexact Hb2
  isplitl [Hv]; · iexists _; iexact Hv
  isplitl [Hj]; · iexists _; iexact Hj
  isplitr [HO]
  · unfold cells0
    sl_close
  · iexists _; iexact HO

end Run

end Cert.Proof
-- ==== Proof.Sc.lean ====
/-
  The SparseCore call: what it hands each tile, what each tile hands back, and the task's obligation. `x1` goes out as read shares;
  of each of the two outputs a tile gets the one row it writes and hands it back at a value that `x1` alone decides.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The rows -/

/-- Tile (SparseCore `c`, subcore `s`). -/
def coordsV (c : Fin (grid0.bound 0)) (s : Fin (grid0.bound 1)) : grid0.Coords :=
  fun | 0 => c | 1 => s | ⟨_ + 2, h⟩ => absurd h (Nat.not_lt.2 (Nat.le_add_left _ _))

/-- The tile whose row row `r` of the outputs is. -/
def rowTile (r : Fin 32) : grid0.Coords :=
  coordsV ⟨r.val % 2, Nat.mod_lt _ (by decide)⟩ ⟨r.val / 2, by have := r.isLt; show _ < 16; omega⟩

theorem rowTile_row (L : grid0.Coords) (r : Fin 32) (h : r.val = 2 * (L 1).val + (L 0).val) : rowTile r = L := by
  have h0 : (L 0).val < 2 := (L 0).isLt
  funext a
  match a with
  | 0 => exact Fin.ext (show r.val % 2 = (L 0).val by omega)
  | 1 => exact Fin.ext (show r.val / 2 = (L 1).val by omega)

abbrev rowRect (L : grid0.Coords) : Rect S32x16 := Rect.unit (s := S32x16) (k0_off5 L) S1x16.size (k0_off5_inb L)

theorem pvR_set (L : grid0.Coords) : (pvR L).view.set = (rowRect L).set := by
  show (((pvV).view.slice (rowRect L)).reshape S16 squeezes_S1x16_S16.numel_eq).set = _
  rw [View.set_reshape, View.set_slice]; exact Finset.map_refl
theorem piR_set (L : grid0.Coords) : (piR L).view.set = (rowRect L).set := by
  show (((piV).view.slice (rowRect L)).reshape S16 squeezes_S1x16_S16.numel_eq).set = _
  rw [View.set_reshape, View.set_slice]; exact Finset.map_refl

theorem mem_row (L : grid0.Coords) (x : S32x16.Idx) : x ∈ (rowRect L).set ↔ (x 0).val = 2 * (L 1).val + (L 0).val := by
  rw [Rect.mem_set_unit, k0_off5_eq]
  have h1 : (x 1).val < 16 := (x 1).isLt
  constructor
  · intro h
    have h0 : 2 * (L 1).val + (L 0).val ≤ (x 0).val ∧ (x 0).val < 2 * (L 1).val + (L 0).val + 1 := h 0
    omega
  · intro h a
    match a with
    | 0 => show 2 * (L 1).val + (L 0).val ≤ (x 0).val ∧ (x 0).val < 2 * (L 1).val + (L 0).val + 1; omega
    | 1 => show 0 ≤ (x 1).val ∧ (x 1).val < 0 + 16; omega

abbrev tileOf (p : Fin 2 × Fin 16) : grid0.Coords := coordsV p.1 p.2
abbrev rowSet (p : Fin 2 × Fin 16) : Finset S32x16.Idx := (rowRect (tileOf p)).set

theorem rows_disjoint : ∀ p ∈ (Finset.univ : Finset (Fin 2 × Fin 16)), ∀ p' ∈ (Finset.univ : Finset (Fin 2 × Fin 16)), p ≠ p' →
    Disjoint (rowSet p) (rowSet p') := by
  intro p _ p' _ h
  refine Finset.disjoint_left.mpr fun x hx hx' => h ?_
  have e := (mem_row _ x).mp hx
  have e' := (mem_row _ x).mp hx'
  change (x 0).val = 2 * p.2.val + p.1.val at e
  change (x 0).val = 2 * p'.2.val + p'.1.val at e'
  have := p.1.isLt; have := p'.1.isLt
  exact Prod.ext (Fin.ext (by omega)) (Fin.ext (by omega))

theorem rows_cover : (Finset.univ : Finset (Fin 2 × Fin 16)).biUnion rowSet = Finset.univ := by
  refine Finset.eq_univ_of_forall fun x => Finset.mem_biUnion.mpr ?_
  have h0 : (x 0).val < 32 := (x 0).isLt
  refine ⟨(⟨(x 0).val % 2, Nat.mod_lt _ (by decide)⟩, ⟨(x 0).val / 2, by omega⟩), Finset.mem_univ _, (mem_row _ x).mpr ?_⟩
  show (x 0).val = 2 * ((x 0).val / 2) + (x 0).val % 2
  omega

theorem lane16 : ∀ y : S16.Idx, ((Shape.reshapeEquiv (s := S1x16) (s' := S16) squeezes_S1x16_S16.numel_eq) y 1).val = (y 0).val := by
  decide +kernel

/-- Lane `l`. -/
abbrev lane (l : Fin 16) : S16.Idx := fun | 0 => l

theorem pvR_emb (L : grid0.Coords) (y : S16.Idx) (a : Fin 2) :
    ((pvR L).view.emb y a).val = match a with | 0 => 2 * (L 1).val + (L 0).val | 1 => (y 0).val := by
  match a with
  | 0 =>
    show k0_off5 L 0 + 1 * ((Shape.reshapeEquiv (s := S1x16) (s' := S16) squeezes_S1x16_S16.numel_eq) y 0).val = _
    have : ((Shape.reshapeEquiv (s := S1x16) (s' := S16) squeezes_S1x16_S16.numel_eq) y 0).val < 1 := Fin.isLt _
    rw [k0_off5_eq]; show 2 * (L 1).val + (L 0).val + _ = 2 * (L 1).val + (L 0).val; omega
  | 1 =>
    show k0_off5 L 1 + 1 * ((Shape.reshapeEquiv (s := S1x16) (s' := S16) squeezes_S1x16_S16.numel_eq) y 1).val = _
    rw [lane16, k0_off5_eq]; show 0 + 1 * (y 0).val = (y 0).val; omega
theorem piR_emb (L : grid0.Coords) (y : S16.Idx) (a : Fin 2) :
    ((piR L).view.emb y a).val = match a with | 0 => 2 * (L 1).val + (L 0).val | 1 => (y 0).val := pvR_emb L y a

/-! ## What the call leaves -/

variable [FloatOps F] (m : (ℓ : Loc nD τ sig) → Buf (Elt F) ℓ)

/-- The call's two outputs: row `r` holds the two vectors of row `r`'s tile. -/
def pvF (d : Dev nD) : Buf (Elt F) (pvLoc d) := fun j : S32x16.Idx =>
  tileV (g0 d (rowTile (j 0)) (m (xLoc d))) (g1 d (rowTile (j 0)) (m (xLoc d))) (g2 d (rowTile (j 0)) (m (xLoc d))) (lane (j 1))
def piF (d : Dev nD) : Buf (Elt F) (piLoc d) := fun j : S32x16.Idx =>
  tileI (widW (rowTile (j 0))) (g0 d (rowTile (j 0)) (m (xLoc d))) (g1 d (rowTile (j 0)) (m (xLoc d))) (g2 d (rowTile (j 0)) (m (xLoc d)))
    (lane (j 1))

omit [FloatOps F] in
theorem row_eq {α : Type} (f : S32x16.Idx → α) (G : grid0.Coords → S16.Idx → α) (L : grid0.Coords) (e : S16.Idx → S32x16.Idx)
    (he : ∀ y a, (e y a).val = match a with | 0 => 2 * (L 1).val + (L 0).val | 1 => (y 0).val) (h : ∀ y, f (e y) = G L y)
    (x : S32x16.Idx) (hx : x ∈ (rowRect L).set) : f x = G (rowTile (x 0)) (lane (x 1)) := by
  have hr := (mem_row L x).mp hx
  have : x = e (lane (x 1)) := funext fun a => Fin.ext (by
    rw [he]
    match a with
    | 0 => exact hr
    | 1 => rfl)
  rw [rowTile_row L _ hr, ← h]
  exact congrArg f this

theorem pv_row (d : Dev nD) (L : grid0.Coords) (f : Buf (Elt F) (pvLoc d))
    (h : (pvR L).view.read (Elt F) f = tileV (g0 d L (m (xLoc d))) (g1 d L (m (xLoc d))) (g2 d L (m (xLoc d)))) :
    ∀ x ∈ (rowRect L).set, f x = pvF m d x :=
  row_eq (f : S32x16.Idx → F .f32) (fun L => tileV (g0 d L (m (xLoc d))) (g1 d L (m (xLoc d))) (g2 d L (m (xLoc d)))) L _ (pvR_emb L)
    fun y => ((View.read_apply _ _).trans (cast_eq _ _)).symm.trans (congrFun h y)
theorem pi_row (d : Dev nD) (L : grid0.Coords) (f : Buf (Elt F) (piLoc d))
    (h : (piR L).view.read (Elt F) f = tileI (widW L) (g0 d L (m (xLoc d))) (g1 d L (m (xLoc d))) (g2 d L (m (xLoc d)))) :
    ∀ x ∈ (rowRect L).set, f x = piF m d x :=
  row_eq (f : S32x16.Idx → BitVec 32) (fun L => tileI (widW L) (g0 d L (m (xLoc d))) (g1 d L (m (xLoc d))) (g2 d L (m (xLoc d)))) L _ (piR_emb L)
    fun y => ((View.read_apply _ _).trans (cast_eq _ _)).symm.trans (congrFun h y)

/-! ## What the handshakes carry -/

/-- A tile's share of `x1`: the whole array dealt among the SparseCores, each part among its tiles. -/
abbrev xq (p : Fin 2 × Fin 16) : PosShare TreeShare :=
  Transfers.dealOf (Transfers.dealOf fullShare (Finset.univ : Finset (Fin 2)) p.1) (Finset.univ : Finset (Fin 16)) p.2

abbrev goAt (d : Dev nD) (p : Fin 2 × Fin 16) : sProp (MM F) :=
  iprop((xLoc d ↦{xq p} m (xLoc d)) ∗ (pvLoc d ↦[rowSet p]{fullShare} m (pvLoc d)) ∗ (piLoc d ↦[rowSet p]{fullShare} m (piLoc d)))
abbrev tdAt (d : Dev nD) (p : Fin 2 × Fin 16) : sProp (MM F) :=
  iprop((xLoc d ↦{xq p} m (xLoc d)) ∗ (pvLoc d ↦[rowSet p]{fullShare} pvF m d) ∗ (piLoc d ↦[rowSet p]{fullShare} piF m d))

abbrev pair (c : Fin ((K (F := F)).nCore 0)) (i : Fin ((K (F := F)).nSub 0)) : Fin 2 × Fin 16 :=
  (Fin.cast nCore_zero c, Fin.cast nSub_zero i)

def P : (K (F := F)).Pay (nD := nD) (Val := Elt F) (Name := ℕ) (U := UU) where
  st := fun q d c => match q with | 0 => bigSep Finset.univ fun i => goAt m d (pair c i)
  dn := fun q d c => match q with | 0 => bigSep Finset.univ fun i => tdAt m d (pair c i)
  go := fun q d c i => match q with | 0 => goAt m d (pair c i)
  td := fun q d c i => match q with | 0 => tdAt m d (pair c i)
  x := fun _ _ => iprop(emp)

instance P_storable : (P (F := F) m).IsStorable where
  st q d c := match q with
    | 0 => (inferInstance : BI.Storable (upEmb : UEmb _ (MM F)) (bigSep Finset.univ fun i => goAt m d (pair c i)))
  dn q d c := match q with
    | 0 => (inferInstance : BI.Storable (upEmb : UEmb _ (MM F)) (bigSep Finset.univ fun i => tdAt m d (pair c i)))
  go q d c i := match q with
    | 0 => (inferInstance : BI.Storable (upEmb : UEmb _ (MM F)) (goAt m d (pair c i)))
  td q d c i := match q with
    | 0 => (inferInstance : BI.Storable (upEmb : UEmb _ (MM F)) (tdAt m d (pair c i)))

theorem vecSplit : (K (F := F)).VecSplit' (P m) 0 := by
  intro d c
  show (bigSep Finset.univ fun i => goAt m d (pair c i)) ⊢ |={Set.univ}=> iprop(
      (bigSep Finset.univ fun i => goAt m d (pair c i)) ∗ ((bigSep Finset.univ fun i => tdAt m d (pair c i))
          -∗ (bigSep Finset.univ fun i => tdAt m d (pair c i))))
  iintro H; imodintro
  isplitl [H]; · iexact H
  iintro H; iexact H

/-! ## The task's obligation -/

section Tile

variable (d : Dev nD) (L : grid0.Coords)

omit [FloatOps F] in
theorem pts_b {e : EltTy} {s : Shape} (V : Memref sig .scVector .vmem s e) (hV : V.view.set = Finset.univ) (f : Buf (Elt F) (V.view.loc (VT d L))) :
    (V.view.loc (VT d L) ↦[V.view.set]{fullShare} f : sProp (MM F)) = V.view.loc (VT d L) ↦{fullShare} f := by
  rw [hV]

abbrev dcell (d : Dev nD) (c : Fin τ.nSC) (i : Fin τ.nSub) (k : Fin 5) : GSem nD τ sig :=
  (V d c i, .dma (csem k.val (by have := k.isLt; omega)))

theorem dcell_mem (c : Fin τ.nSC) (i : Fin τ.nSub) (k : Fin 5) : dcell d c i k ∈ ownCells (V d c i) :=
  mem_ownCells.mpr ⟨rfl, (show ∀ s : DmaSem sig, s.val < 5 → (SemLoc.dma s : SemLoc sig).isScoped .scVector = true by decide) _ k.isLt⟩

omit [FloatOps F] in
/-- The tile's own cells at zero: the five the task names, and the rest. -/
theorem ownSems0_V :
    (ownSems0 (VT d L) : sProp (MM F))
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The tile's five scratch buffers. -/
def scr : Fin 5 → Ref sig .scVector
  | 0 => cc0_scratch0 | 1 => cc0_scratch1 | 2 => cc0_scratch2 | 3 => cc0_scratch3 | 4 => cc0_scratch4

theorem scr_inj : Function.Injective scr := by decide

abbrev sref (k : Fin 5) : DevRef τ sig := (Proc.scVector (cV L) (jV L)).devRef (scr k)

theorem sref_mem (k : Fin 5) : sref L k ∈ ownRefs (τ := τ) (.scVector (cV L) (jV L)) :=
  SparseCore.Cfg.mem_ownRefs_of_owner (p := Proc.scVector (cV L) (jV L)) (b := sref L k) (by match k with | 0 => rfl | 1 => rfl | 2 => rfl | 3 => rfl | 4 => rfl)

omit [FloatOps F] in
theorem ownBufs_V :
    (ownBufs (VT d L) : sProp (MM F))
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f))
          ∗ bigSep ((ownRefs (τ := τ) (.scVector (cV L) (jV L))) \ Finset.univ.image (sref L))
              fun b => iprop(∃ f, ((d, b) : Loc nD τ sig) ↦{fullShare} f)) := by
  unfold SparseCore.Cfg.ownBufs
  refine (SparseCore.bigSep_sdiff_split' (t := Finset.univ.image (sref L)) (Finset.image_subset_iff.mpr fun k _ => sref_mem L k)).trans ?_
  rw [SparseCore.bigSep_image_of_injOn (fun a _ b _ h => scr_inj (Proc.devRef_injective _ h))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
/-- The tile's share of `x1` as what stays with it and three read tokens, one per copy in flight. -/
theorem xToks (q : PosShare TreeShare) (f : Buf (Elt F) (xLoc d)) :
    (xLoc d ↦{q} f : sProp (MM F)) ⊣⊢ iprop((xLoc d ↦{Transfers.shareDrop q 3} f) ∗ (xLoc d ↦{Transfers.shareTokN q 0} f)
      ∗ (xLoc d ↦{Transfers.shareTokN q 1} f) ∗ (xLoc d ↦{Transfers.shareTokN q 2} f)) := by
  have h : (xLoc d ↦{q} f : sProp (MM F)) ⊣⊢ iprop((xLoc d ↦{Transfers.shareDrop q 3} f) ∗ bigSep (Finset.range 3) fun i => xLoc d ↦{Transfers.shareTokN q i} f) :=
    Transfers.pointsTo_toks_range (ℓ := xLoc d) (S := Finset.univ) (f := f) q 3
  rw [show Finset.range 3 = {0, 1, 2} by decide, SparseCore.bigSep_insert' (by decide), SparseCore.bigSep_insert' (by decide), bigSep_singleton] at h
  exact h

abbrev goL (q : PosShare TreeShare) : sProp (MM F) :=
  iprop((xLoc d ↦{q} m (xLoc d)) ∗ (pvLoc d ↦[(rowRect L).set]{fullShare} m (pvLoc d)) ∗ (piLoc d ↦[(rowRect L).set]{fullShare} m (piLoc d)))
abbrev tdL (q : PosShare TreeShare) : sProp (MM F) :=
  iprop((xLoc d ↦{q} m (xLoc d)) ∗ (pvLoc d ↦[(rowRect L).set]{fullShare} pvF m d) ∗ (piLoc d ↦[(rowRect L).set]{fullShare} piF m d))

theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ goL m d L q ∗ scopedBufs (VT d L) ∗ scopedSems0 (VT d L) ∗ owes (VT d L) O W)
      ⊢ wp frame (wpE (defs₀ (F := F)) 𝒱₀ (VT d L) none) Set.univ
          (cc0__sc_body L xV (Memref.isWhole_whole _) pvV (Memref.isWhole_whole _) piV (Memref.isWhole_whole _)
            b0V (Memref.isWhole_whole _) b1V (Memref.isWhole_whole _) b2V (Memref.isWhole_whole _) vV (Memref.isWhole_whole _)
            iV (Memref.isWhole_whole _) cc0_scratch5 cc0_scratch6 cc0_scratch7 cc0_scratch8 cc0_scratch9)
          fun _ => iprop(tdL m d L q ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hp, Hi⟩, ⟨⟨⟨%f0, H0⟩, ⟨%f1, H1⟩, ⟨%f2, H2⟩, ⟨%fv, Hv⟩, ⟨%fj, Hj⟩⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hx' := (xToks d q (m (xLoc d))).1 $$ Hx
  icases Hx' with ⟨Hxr, Hx0, Hx1, Hx2⟩
  iapply (wp_wand_r Idealize.ShloMosaic.frame (wpE (defs₀ (F := F)) 𝒱₀ (VT d L) none) Set.univ)
  isplitl [Hx0 Hx1 Hx2 Hp Hi H0 H1 H2 Hv Hj HC HO]
  · iapply (tile_run d L (m (xLoc d)) q O W (m (pvLoc d)) (m (piLoc d)) f0 f1 f2 fv fj)
    rw [pvR_set, piR_set, pts_b d L b0V (View.set_whole _), pts_b d L b1V (View.set_whole _), pts_b d L b2V (View.set_whole _),
      pts_b d L vV (View.set_whole _), pts_b d L iV (View.set_whole _)]
    isplitr; · iexact Hmw
    isplitl [Hx0]; · iexact Hx0
    isplitl [Hx1]; · iexact Hx1
    isplitl [Hx2]; · iexact Hx2
    isplitl [Hp]; · iexact Hp
    isplitl [Hi]; · iexact Hi
    isplitl [H0]; · iexact H0
    isplitl [H1]; · iexact H1
    isplitl [H2]; · iexact H2
    isplitl [Hv]; · iexact Hv
    isplitl [Hj]; · iexact Hj
    isplitl [HC]; · iexact HC
    iexact HO
  rw [pvR_set, piR_set, View.set_whole, View.set_whole, View.set_whole, View.set_whole, View.set_whole]
  iintro %_ ⟨Hx0, Hx1, Hx2, ⟨%fp, %hfp, Hp⟩, ⟨%fi, %hfi, Hi⟩, ⟨%f0', H0⟩, ⟨%f1', H1⟩, ⟨%f2', H2⟩, ⟨%fv', Hv⟩, ⟨%fj', Hj⟩, HC, ⟨%W', HO⟩⟩
  ihave Hx := (xToks d q (m (xLoc d))).2 $$ [Hxr Hx0 Hx1 Hx2]
  · isplitl [Hxr]; · iexact Hxr
    isplitl [Hx0]; · iexact Hx0
    isplitl [Hx1]; · iexact Hx1
    iexact Hx2
  ihave Hp' := (Entails.of_eq (pointsTo_congr (pv_row m d L fp hfp))) $$ Hp
  ihave Hi' := (Entails.of_eq (pointsTo_congr (pi_row m d L fi hfi))) $$ Hi
  isplitl [Hx Hp' Hi']
  · isplitl [Hx]; · iexact Hx
    isplitl [Hp']; · iexact Hp'
    iexact Hi'
  isplitl [H0 H1 H2 Hv Hj Hbufs]
  · isplitl [H0 H1 H2 Hv Hj]
    · isplitl [H0]; · iexists _; iexact H0
      isplitl [H1]; · iexists _; iexact H1
      isplitl [H2]; · iexists _; iexact H2
      isplitl [Hv]; · iexists _; iexact Hv
      iexists _; iexact Hj
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Tile

theorem defs₀_vector (c : Fin τ.nSC) (s : Fin τ.nSub) :
    defs₀ (F := F) (.scVector c s) 0 ()
      = SparseCore.onTile hcore0 hsub0 (fun c s => cc0__sc_body (coordsV c s) xV (Memref.isWhole_whole _) pvV (Memref.isWhole_whole _)
          piV (Memref.isWhole_whole _) b0V (Memref.isWhole_whole _) b1V (Memref.isWhole_whole _) b2V (Memref.isWhole_whole _)
          vV (Memref.isWhole_whole _) iV (Memref.isWhole_whole _) cc0_scratch5 cc0_scratch6 cc0_scratch7 cc0_scratch8 cc0_scratch9) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (xq (pair c i)) O W hO

end Cert.Proof
-- ==== Proof.Reg2.lean ====
/-
  The second TensorCore call as a pipeline region: one point on whole arrays.
-/
module

public import proofs.«01_k».proof.Proof.Reg1
public import proofs.«01_k».proof.Proof.Sc

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline

variable {F : FTy → Type} [FloatOps F]
variable (m : (ℓ : Loc nD τ sig) → Buf (Elt F) ℓ)

/-- The kernel's result. -/
def oF (c : Dev nD) : S64.Idx → BitVec 32 :=
  k2_pay1 (pvF m c) (xvF (m (xLoc c))) (pvF m c) (piF m c) (xvF (m (xLoc c))) (xiF (m (xLoc c))) (raF (m (yLoc c)))

/-- What the second call's arrays hold when it starts. -/
def A2 (c : Dev nD) : (w : Fin cfg2.W) → Buf (Elt F) ((cfg2.win w).arr.view.loc (c : Thread nD τ))
  | 0 => pvF m c
  | 1 => piF m c
  | 2 => xvF (m (xLoc c))
  | 3 => xiF (m (xLoc c))
  | 4 => raF (m (yLoc c))
  | 5 => m (oLoc c)
  | ⟨_ + 6, h⟩ => absurd h (Nat.not_lt.2 (Nat.le_add_left _ _))

/-- How each window's block changes at the one point. -/
def after2 (c : Dev nD) : (w : Fin cfg2.W) → Fin cfg2.N → (Y X : (cfg2.win w).block.Idx → Elt F (cfg2.win w).elt) → Prop
  | 0 => fun _ _ _ => True
  | 1 => fun _ _ _ => True
  | 2 => fun _ _ _ => True
  | 3 => fun _ _ _ => True
  | 4 => fun _ _ _ => True
  | 5 => fun _ _ X => X = oF m c
  | ⟨_ + 6, h⟩ => absurd h (Nat.not_lt.2 (Nat.le_add_left _ _))

/-- The second call's proof data. -/
def rd2 (c : Dev nD) : RDat τ (Elt F) (HIx 1) ℕ UU ℕ cfg2 c where
  A := A2 m c
  after := after2 m c
  Φ _ := scopedRest spec2 c
  q _ := fullShare
  owed _ := 0
  recorded _ := low (F := F) c

variable (c : Dev nD)

/-! ## The blocks fetched: the whole arrays -/

theorem fill2 (w : Fin cfg2.W) (t : Fin cfg2.N) (d X : (cfg2.win w).block.Idx → Elt F (cfg2.win w).elt)
    (hc : ∀ a, (cfg2.win w).clip (cfg2.grid.coords t) a = none)
    (h : (rd2 m c).blockOf w t = (cfg2.win w).cut (cfg2.grid.coords t) X) : (rd2 m c).fetched w t d = X := by
  unfold RDat.fetched
  rw [h, fill_of_clip_none w (cfg2.grid.coords t) hc d X]
  exact Window.fill_cut _ _ _

section Fetched

attribute [local irreducible] pvF piF xvF xiF raF

theorem fetched2_0 (t : Fin cfg2.N) (d) : (rd2 m c).fetched 0 t d = pvF m c :=
  fill2 m c 0 t d _ (fun _ => rfl) (funext fun j => congrArg (pvF m c) (funext fun a => Fin.ext (by
    match a with
    | 0 => blk_simp; show 0 * 32 + (j 0).val = (j 0).val; omega
    | 1 => blk_simp; show 0 * 16 + (j 1).val = (j 1).val; omega)))

theorem fetched2_1 (t : Fin cfg2.N) (d) : (rd2 m c).fetched 1 t d = piF m c :=
  fill2 m c 1 t d _ (fun _ => rfl) (funext fun j => congrArg (piF m c) (funext fun a => Fin.ext (by
    match a with
    | 0 => blk_simp; show 0 * 32 + (j 0).val = (j 0).val; omega
    | 1 => blk_simp; show 0 * 16 + (j 1).val = (j 1).val; omega)))

theorem fetched2_2 (t : Fin cfg2.N) (d) : (rd2 m c).fetched 2 t d = xvF (m (xLoc c)) :=
  fill2 m c 2 t d _ (fun _ => rfl) (funext fun j => congrArg (xvF (m (xLoc c))) (funext fun a => Fin.ext (by
    match a with
    | 0 => blk_simp; show 0 * 16 + (j 0).val = (j 0).val; omega)))

theorem fetched2_3 (t : Fin cfg2.N) (d) : (rd2 m c).fetched 3 t d = xiF (m (xLoc c)) :=
  fill2 m c 3 t d _ (fun _ => rfl) (funext fun j => congrArg (xiF (m (xLoc c))) (funext fun a => Fin.ext (by
    match a with
    | 0 => blk_simp; show 0 * 16 + (j 0).val = (j 0).val; omega)))

theorem fetched2_4 (t : Fin cfg2.N) (d) : (rd2 m c).fetched 4 t d = raF (m (yLoc c)) :=
  fill2 m c 4 t d _ (fun _ => rfl) (funext fun j => congrArg (raF (m (yLoc c))) (funext fun a => Fin.ext (by
    match a with
    | 0 => blk_simp; show 0 * 64 + (j 0).val = (j 0).val; omega)))

end Fetched

/-! ## The body obligation -/

theorem body2 : (rd2 m c).BodyObligation defs₀ 𝒱₀ none Set.univ := fun t Y hY => by
  rw [bigSep_W2, bigSep_W2]
  have e0 : Y 0 = pvF m c := by
    obtain ⟨d, hd⟩ := ((rd2 m c).finds_of_fetch (fetch2_0 t) _).mp (hY 0); rw [hd, fetched2_0]
  have e1 : Y 1 = piF m c := by
    obtain ⟨d, hd⟩ := ((rd2 m c).finds_of_fetch (fetch2_1 t) _).mp (hY 1); rw [hd, fetched2_1]
  have e2 : Y 2 = xvF (m (xLoc c)) := by
    obtain ⟨d, hd⟩ := ((rd2 m c).finds_of_fetch (fetch2_2 t) _).mp (hY 2); rw [hd, fetched2_2]
  have e3 : Y 3 = xiF (m (xLoc c)) := by
    obtain ⟨d, hd⟩ := ((rd2 m c).finds_of_fetch (fetch2_3 t) _).mp (hY 3); rw [hd, fetched2_3]
  have e4 : Y 4 = raF (m (yLoc c)) := by
    obtain ⟨d, hd⟩ := ((rd2 m c).finds_of_fetch (fetch2_4 t) _).mp (hY 4); rw [hd, fetched2_4]
  rw [show (rd2 m c).owesAt none t.succ = (rd2 m c).owesAt none t.castSucc from rfl,
    show (rd2 m c).Φ t.succ = (rd2 m c).Φ t.castSucc from rfl]
  have hrun := merge_run c (win2_0.stage (cfg2.slots t 0)) (hstage2_0 0) (win2_1.stage (cfg2.slots t 1)) (hstage2_1 0)
    (win2_2.stage (cfg2.slots t 2)) (hstage2_2 0) (win2_3.stage (cfg2.slots t 3)) (hstage2_3 0) (win2_4.stage (cfg2.slots t 4)) (hstage2_4 0)
    (win2_5.stage (cfg2.slots t 5)) (hstage2_5 0) (Y 0) (Y 1) (Y 2) (Y 3) (Y 4) (Y 5)
  iintro ⟨HΦ, HO, H0, H1, H2, H3, H4, H5⟩
  iapply (wp_wand_r frame (wpE (defs₀ (F := F)) 𝒱₀ (c : Thread nD τ) none) Set.univ)
  isplitl [H0 H1 H2 H3 H4 H5]
  · iapply hrun
    isplitl [H0]; · iexact H0
    isplitl [H1]; · iexact H1
    isplitl [H2]; · iexact H2
    isplitl [H3]; · iexact H3
    isplitl [H4]; · iexact H4
    iexact H5
  iintro %u ⟨H0, H1, H2, H3, H4, H5⟩
  isplitl [HΦ]; · iexact HΦ
  isplitl [HO]; · iexact HO
  isplitl [H0]; · iexists (Y 0); isplitr; · ipureintro; exact trivial
                  iexact H0
  isplitl [H1]; · iexists (Y 1); isplitr; · ipureintro; exact trivial
                  iexact H1
  isplitl [H2]; · iexists (Y 2); isplitr; · ipureintro; exact trivial
                  iexact H2
  isplitl [H3]; · iexists (Y 3); isplitr; · ipureintro; exact trivial
                  iexact H3
  isplitl [H4]; · iexists (Y 4); isplitr; · ipureintro; exact trivial
                  iexact H4
  iexists _; isplitr; swap; · iexact H5
  ipureintro
  show k2_pay1 (Y 0) (Y 2) (Y 0) (Y 1) (Y 2) (Y 3) (Y 4) = oF m c
  rw [e0, e1, e2, e3, e4]; rfl

/-- The result array after the point. -/
theorem arr2_5 {G} (h : (rd2 m c).ArrAt 5 cfg2.N G) : G = oF m c := by
  obtain ⟨X, ⟨Y, -, rfl⟩, hj⟩ := h.emb_eq_of_wholeAt (t₀ := t2_0) (by decide +kernel)
  funext j
  exact hj j

end Cert.Proof
-- ==== Proof.Segs.lean ====
/-
  The two TensorCore calls as regions of the program: what each takes from the thread and what it gives back.
-/
module

public import proofs.«01_k».proof.Proof.Reg2
public import Idealize.ShloMosaic.Lib.Pipeline.RegionArrays

@[expose] public section

set_option maxRecDepth 16384

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline

variable {F : FTy → Type} [FloatOps F]
variable (m : (ℓ : Loc nD τ sig) → Buf (Elt F) ℓ)

/-- The proof data of both pipelines. -/
def rdats : (p : Fin 2) → (c : Dev nD) → RDat τ (Elt F) (HIx 1) ℕ UU ℕ (pin (pcfgs (F := F)) adm p) c
  | 0 => rd1 m
  | 1 => rd2 m

/-- A core that owes nothing, its recorded pairs low. -/
abbrev idle (c : Dev nD) : sProp (MM F) :=
  iprop(∃ W, ⌜(K (F := F)).WBelow (SparseCore.T c) W (8 * 1)⌝ ∗ owes (SparseCore.T c) (0 : CellTallies nD τ sig (HIx 1)) W)

variable (c : Dev nD)

theorem idle_owesAt {cfg : Pipeline.Cfg sig Λ₀} (rd : RDat τ (Elt F) (HIx 1) ℕ UU ℕ cfg c) (t : Fin (cfg.N + 1))
    (h0 : rd.owed t = 0) (hr : rd.recorded t = low (F := F) c) : (idle c : sProp (MM F)) ⊢ rd.owesAt none t := by
  unfold RDat.owesAt owesWithin RDat.bound; rw [h0, hr]
  iintro ⟨%W, %hW, HO⟩; iexists W; isplitr; · ipureintro; exact fun p hp => Or.inl (hW p hp)
  iexact HO
theorem owesAt_idle {cfg : Pipeline.Cfg sig Λ₀} (rd : RDat τ (Elt F) (HIx 1) ℕ UU ℕ cfg c) (t : Fin (cfg.N + 1))
    (h0 : rd.owed t = 0) (hr : rd.recorded t = low (F := F) c) : rd.owesAt none t ⊢ (idle c : sProp (MM F)) := by
  unfold RDat.owesAt owesWithin RDat.bound; rw [h0, hr]
  iintro ⟨%W, %hW, HO⟩; iexists W; isplitr
  · ipureintro
    intro p hp
    rcases hW hp with h | ⟨w, s, rfl⟩
    · exact h
    · exact Nat.zero_le _
  iexact HO

omit [FloatOps F] in
/-- A whole array's points-to, as a pipeline states it. -/
theorem arr_pt (b : Ref sig .tc) (q : PosShare TreeShare) (f : Buf (Elt F) ((c : Thread nD τ).loc b)) :
    (((Memref.whole b).view.loc (c : Thread nD τ) ↦[(Memref.whole b).view.set]{q} f) : sProp (MM F)) = ((c : Thread nD τ).loc b ↦{q} f) := by
  rw [View.set_whole]

theorem arrays1_eq (Fa : (w : Fin cfg1.W) → Buf (Elt F) ((cfg1.win w).arr.view.loc (c : Thread nD τ))) :
    ((rdats m 0 c).arrays Fa : sProp (MM F)) = iprop((yLoc c ↦{Transfers.dealOf fullShare (Finset.univ : Finset (Fin 2)) 0} Fa 0)
      ∗ (yLoc c ↦{Transfers.dealOf fullShare (Finset.univ : Finset (Fin 2)) 1} Fa 1) ∗ (xLoc c ↦{fullShare} Fa 2)
      ∗ (raLoc c ↦{fullShare} Fa 3) ∗ (xvLoc c ↦{fullShare} Fa 4) ∗ (xiLoc c ↦{fullShare} Fa 5)) :=
  (bigSep_W1 _).trans (congrArg₂ BI.sep (arr_pt c main_arg1 _ _) (congrArg₂ BI.sep (arr_pt c main_arg1 _ _)
    (congrArg₂ BI.sep (arr_pt c main_arg0 _ _) (congrArg₂ BI.sep (arr_pt c main_v1_0 _ _)
      (congrArg₂ BI.sep (arr_pt c main_v1_1 _ _) (arr_pt c main_v1_2 _ _))))))

theorem arrays2_eq (Fa : (w : Fin cfg2.W) → Buf (Elt F) ((cfg2.win w).arr.view.loc (c : Thread nD τ))) :
    ((rdats m 1 c).arrays Fa : sProp (MM F)) = iprop((pvLoc c ↦{fullShare} Fa 0) ∗ (piLoc c ↦{fullShare} Fa 1) ∗ (xvLoc c ↦{fullShare} Fa 2)
      ∗ (xiLoc c ↦{fullShare} Fa 3) ∗ (raLoc c ↦{fullShare} Fa 4) ∗ (oLoc c ↦{fullShare} Fa 5)) :=
  (bigSep_W2 _).trans (congrArg₂ BI.sep (arr_pt c main_v0_0 _ _) (congrArg₂ BI.sep (arr_pt c main_v0_1 _ _)
    (congrArg₂ BI.sep (arr_pt c main_v1_1 _ _) (congrArg₂ BI.sep (arr_pt c main_v1_2 _ _)
      (congrArg₂ BI.sep (arr_pt c main_v1_0 _ _) (arr_pt c main_v2 _ _))))))

omit [FloatOps F] in
/-- `x2` in its two windows' shares. -/
theorem halves (f : Buf (Elt F) (yLoc c)) : ((yLoc c ↦{fullShare} f) : sProp (MM F))
    = iprop((yLoc c ↦{Transfers.dealOf fullShare (Finset.univ : Finset (Fin 2)) 0} f) ∗ (yLoc c ↦{Transfers.dealOf fullShare (Finset.univ : Finset (Fin 2)) 1} f)) := by
  rw [Transfers.pointsTo_deal (Finset.univ : Finset (Fin 2)) Finset.univ_nonempty fullShare]
  exact bigSep_fin_two _

/-- After the last point every array is at its final contents. -/
theorem arraysAt1 : ((rdats m 0 c).arraysAt cfg1.N : sProp (MM F)) ⊢ iprop((yLoc c ↦{fullShare} m (yLoc c)) ∗ (xLoc c ↦{fullShare} m (xLoc c))
      ∗ (raLoc c ↦{fullShare} raF (m (yLoc c))) ∗ (xvLoc c ↦{fullShare} xvF (m (xLoc c))) ∗ (xiLoc c ↦{fullShare} xiF (m (xLoc c)))) := by
  rw [show ((rdats m 0 c).arraysAt cfg1.N : sProp (MM F)) = _ from bigSep_W1 _]
  iintro ⟨⟨%f0, %h0, H0⟩, ⟨%f1, %h1, H1⟩, ⟨%f2, %h2, H2⟩, ⟨%f3, %h3, H3⟩, ⟨%f4, %h4, H4⟩, ⟨%f5, %h5, H5⟩⟩
  obtain rfl : f0 = m (yLoc c) := (congrFun ((rd1 m c).ArrAt_in 0 rfl cfg1.N) f0).mp h0
  obtain rfl : f1 = m (yLoc c) := (congrFun ((rd1 m c).ArrAt_in 1 rfl cfg1.N) f1).mp h1
  obtain rfl : f2 = m (xLoc c) := (congrFun ((rd1 m c).ArrAt_in 2 rfl cfg1.N) f2).mp h2
  obtain rfl : f3 = raF (m (yLoc c)) := arr3 m c h3
  obtain rfl : f4 = xvF (m (xLoc c)) := arr4 m c h4
  obtain rfl : f5 = xiF (m (xLoc c)) := arr5 m c h5
  isplitl [H0 H1]
  · rw [halves]
    isplitl [H0]; · iapply (Entails.of_eq (arr_pt c main_arg1 _ _)) $$ H0
    iapply (Entails.of_eq (arr_pt c main_arg1 _ _)) $$ H1
  isplitl [H2]; · iapply (Entails.of_eq (arr_pt c main_arg0 _ _)) $$ H2
  isplitl [H3]; · iapply (Entails.of_eq (arr_pt c main_v1_0 _ _)) $$ H3
  isplitl [H4]; · iapply (Entails.of_eq (arr_pt c main_v1_1 _ _)) $$ H4
  iapply (Entails.of_eq (arr_pt c main_v1_2 _ _)) $$ H5

theorem arraysAt2 : ((rdats m 1 c).arraysAt cfg2.N : sProp (MM F)) ⊢ (oLoc c ↦{fullShare} oF m c) := by
  rw [show ((rdats m 1 c).arraysAt cfg2.N : sProp (MM F)) = _ from bigSep_W2 _]
  iintro ⟨-, -, -, -, -, ⟨%f5, %h5, H5⟩⟩
  obtain rfl : f5 = oF m c := arr2_5 m c h5
  iapply (Entails.of_eq (arr_pt c main_v2 _ _)) $$ H5

/-- The first call: its inputs and results in, the results at their final contents out. -/
def reg1 : RDat.RegionSeg (pcfgs (F := F)) adm (rdats m) none defs₀ 𝒱₀ (K (F := F)).L (K (F := F)).lev 0 where
  win := winFacts₀1
  block_pos := block_pos1
  stage_whole := stage_whole1
  K := PEmpty
  osem k := k.elim
  ho := OwnSemFacts.none _
  hbody c := body1 m c
  hwaits := RDat.hwaits_of_owed_zero _ _ _ _ _ _ 0 fun _ _ => rfl
  pre c := iprop(((yLoc c ↦{fullShare} m (yLoc c)) ∗ (xLoc c ↦{fullShare} m (xLoc c)) ∗ (raLoc c ↦{fullShare} m (raLoc c))
      ∗ (xvLoc c ↦{fullShare} m (xvLoc c)) ∗ (xiLoc c ↦{fullShare} m (xiLoc c))) ∗ idle c)
  post c := iprop(((yLoc c ↦{fullShare} m (yLoc c)) ∗ (xLoc c ↦{fullShare} m (xLoc c)) ∗ (raLoc c ↦{fullShare} raF (m (yLoc c)))
      ∗ (xvLoc c ↦{fullShare} xvF (m (xLoc c))) ∗ (xiLoc c ↦{fullShare} xiF (m (xLoc c)))) ∗ idle c)
  X _ := BI.emp
  Y _ := BI.emp
  Z _ := BI.emp
  hentry c := by
    rw [ownSems0_none, arrays1_eq, prefHeld_of_none _ rfl, halves]
    iintro ⟨⟨⟨⟨Hy0, Hy1⟩, Hx, H3, H4, H5⟩, HO⟩, -, -⟩
    imodintro
    isplitl [Hy0 Hy1 Hx H3 H4 H5]
    · isplitl [Hy0]; · iexact Hy0
      isplitl [Hy1]; · iexact Hy1
      isplitl [Hx]; · iexact Hx
      isplitl [H3]; · iexact H3
      isplitl [H4]; · iexact H4
      iexact H5
    isplitr; · iempintro
    isplitl [HO]; · iapply (idle_owesAt c (rdats m 0 c) 0 rfl rfl) $$ HO
    isplitr <;> iempintro
  hin c := by
    rw [show (rdats m 0 c).Φ 0 = scopedRest spec1 c from rfl]
    iintro ⟨-, -, H⟩; iexact H
  hout c := by
    rw [show (rdats m 0 c).Φ (Fin.last _) = scopedRest spec1 c from rfl, ownSems0_none]
    iintro H
    isplitr; · iempintro
    isplitr; · iempintro
    iexact H
  hexit c := by
    iintro ⟨HA, HO, -, -⟩
    imodintro
    isplitl [HA]; · iapply (arraysAt1 m c) $$ HA
    iapply (owesAt_idle c (rdats m 0 c) _ rfl rfl) $$ HO

/-- What the second call finds in a window's array. -/
theorem A2_eq (w : Fin cfg2.W) : (rdats m 1 c).A w = A2 m c w := rfl

/-- The second call: the five inputs in, the program's result out. -/
def reg2 : RDat.RegionSeg (pcfgs (F := F)) adm (rdats m) none defs₀ 𝒱₀ (K (F := F)).L (K (F := F)).lev 1 where
  win := winFacts2.to₀
  block_pos := block_pos2
  stage_whole := stage_whole2
  K := PEmpty
  osem k := k.elim
  ho := OwnSemFacts.none _
  hbody c := body2 m c
  hwaits := RDat.hwaits_of_owed_zero _ _ _ _ _ _ 1 fun _ _ => rfl
  pre c := iprop(((pvLoc c ↦{fullShare} pvF m c) ∗ (piLoc c ↦{fullShare} piF m c) ∗ (xvLoc c ↦{fullShare} xvF (m (xLoc c)))
      ∗ (xiLoc c ↦{fullShare} xiF (m (xLoc c))) ∗ (raLoc c ↦{fullShare} raF (m (yLoc c))) ∗ (oLoc c ↦{fullShare} m (oLoc c))) ∗ idle c)
  post c := iprop((oLoc c ↦{fullShare} oF m c) ∗ idle c)
  X _ := BI.emp
  Y _ := BI.emp
  Z _ := BI.emp
  hentry c := by
    rw [ownSems0_none, arrays2_eq, prefHeld_of_none _ rfl, A2_eq m c 0, A2_eq m c 1, A2_eq m c 2, A2_eq m c 3, A2_eq m c 4, A2_eq m c 5]
    rw [show A2 m c 0 = pvF m c from rfl, show A2 m c 1 = piF m c from rfl, show A2 m c 2 = xvF (m (xLoc c)) from rfl,
      show A2 m c 3 = xiF (m (xLoc c)) from rfl, show A2 m c 4 = raF (m (yLoc c)) from rfl, show A2 m c 5 = m (oLoc c) from rfl]
    iintro ⟨⟨H, HO⟩, -, -⟩
    imodintro
    isplitl [H]; · iexact H
    isplitr; · iempintro
    isplitl [HO]; · iapply (idle_owesAt c (rdats m 1 c) 0 rfl rfl) $$ HO
    isplitr <;> iempintro
  hin c := by
    rw [show (rdats m 1 c).Φ 0 = scopedRest spec2 c from rfl]
    iintro ⟨-, -, H⟩; iexact H
  hout c := by
    rw [show (rdats m 1 c).Φ (Fin.last _) = scopedRest spec2 c from rfl, ownSems0_none]
    iintro H
    isplitr; · iempintro
    isplitr; · iempintro
    iexact H
  hexit c := by
    iintro ⟨HA, HO, -, -⟩
    imodintro
    isplitl [HA]; · iapply (arraysAt2 m c) $$ HA
    iapply (owesAt_idle c (rdats m 1 c) _ rfl rfl) $$ HO

end Cert.Proof
-- ==== Proof.Run.lean ====
/-
  The whole program's run: the SparseCore call, then the two TensorCore calls, from any launch memory. Every weight family `F`;
  the results are functions of the launch memory.
-/
module

public import proofs.«01_k».proof.Proof.Segs
public import proofs.«01_k».proof.Proof.Sc

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (pin cellsGhost toksInit)

variable {F : FTy → Type} [FloatOps F]
variable (m : (ℓ : Loc nD τ sig) → Buf (Elt F) ℓ) (ρ : Dev nD → PrngReg)

/-! ## The ghost state at launch -/

/-- The pipelines' rounds: the middle of the three components. -/
def EP : Emb (UR sig nD τ) (MM F) := (Emb.inl : Emb (UR sig nD τ) (UR sig nD τ × Counters)).trans embR

instance EP_landsIn : (EP : Emb (UR sig nD τ) (MM F)).LandsIn (upEmb : UEmb _ (MM F)) := by unfold EP; infer_instance

def u₀ : UU := (initOf (K (F := F)).hsCells (K (F := F)).hsToks,
  (initOf (Pipeline.cells (pin (pcfgs (F := F)) adm) cellOf_inj) (Pipeline.launchToks (pin (pcfgs (F := F)) adm) cellOf_inj), 1))

/-- What the launch deals device `d`'s TensorCore: both pipelines' ghost state. -/
abbrev G (d : Dev nD) : sProp (MM F) :=
  iprop((bigSep Finset.univ fun p : Fin 2 => cellsGhost (pin (pcfgs (F := F)) adm) EP p d)
    ∗ bigSep Finset.univ fun p : Fin 2 => toksInit (pin (pcfgs (F := F)) adm) EP p d)

theorem G_eq (d : Dev nD) : (G d : sProp (MM F))
    = iprop((cellsGhost (pin (pcfgs (F := F)) adm) EP 0 d ∗ cellsGhost (pin (pcfgs (F := F)) adm) EP 1 d)
        ∗ (toksInit (pin (pcfgs (F := F)) adm) EP 0 d ∗ toksInit (pin (pcfgs (F := F)) adm) EP 1 d)) := by
  unfold G
  rw [show (Finset.univ : Finset (Fin 2)) = {0, 1} by decide, SparseCore.bigSep_insert' (by decide), bigSep_singleton,
    SparseCore.bigSep_insert' (by decide), bigSep_singleton]

theorem hu₀ : (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pin (pcfgs (F := F)) adm) cellOf_inj) (Pipeline.launchToks (pin (pcfgs (F := F)) adm) cellOf_inj), 1) : UR sig nD τ × Counters)) $$ Hu
  icases H with ⟨HH, HR⟩
  ihave H2 := (own_pair_emb embR (initOf (Pipeline.cells (pin (pcfgs (F := F)) adm) cellOf_inj) (Pipeline.launchToks (pin (pcfgs (F := F)) adm) cellOf_inj)) (1 : Counters)) $$ HR
  icases H2 with ⟨HP, -⟩
  ihave HP := (show BI.own (((Emb.inl : Emb (UR sig nD τ) (UR sig nD τ × Counters)).trans embR) _) ⊢
    (BI.own (EP (initOf (Pipeline.cells (pin (pcfgs (F := F)) adm) cellOf_inj) (Pipeline.launchToks (pin (pcfgs (F := F)) adm) cellOf_inj))) : sProp (MM F))
      from BI.Entails.refl _) $$ HP
  imod (Pipeline.fund_ghost (pin (pcfgs (F := F)) adm) EP cellOf_inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp (MM F)) from bigSep_emp_const _]
  iempintro

/-! ## The buffers -/

omit [FloatOps F] in
theorem unscopedBufs_eq (d : Dev nD) (W : (b : Ref sig .tc) → Buf (Elt F) ((d.tc : Thread nD τ).loc b)) :
    (unscopedBufs d W : sProp (MM F)) = iprop((xLoc d ↦{fullShare} W main_arg0) ∗ (yLoc d ↦{fullShare} W main_arg1)
      ∗ (pvLoc d ↦{fullShare} W main_v0_0) ∗ (piLoc d ↦{fullShare} W main_v0_1) ∗ (raLoc d ↦{fullShare} W main_v1_0)
      ∗ (xvLoc d ↦{fullShare} W main_v1_1) ∗ (xiLoc d ↦{fullShare} W main_v1_2) ∗ oLoc d ↦{fullShare} W main_v2) := by
  unfold unscopedBufs
  rw [show (Finset.univ.filter fun b : Ref sig .tc => ¬ b.isScoped)
      = {main_arg0, main_arg1, main_v0_0, main_v0_1, main_v1_0, main_v1_1, main_v1_2, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
/-- `x1` whole is its 32 shares. -/
theorem x_shares (d : Dev nD) (f : Buf (Elt F) (xLoc d)) :
    (xLoc d ↦{fullShare} f : sProp (MM F)) = bigSep Finset.univ fun c : Fin 2 => bigSep Finset.univ fun i : Fin 16 => xLoc d ↦{xq (c, i)} f := by
  have h1 : (xLoc d ↦{fullShare} f : sProp (MM F)) = _ :=
    Transfers.pointsTo_deal (ℓ := xLoc d) (S := Finset.univ) (f := f) (Finset.univ : Finset (Fin 2)) ⟨0, Finset.mem_univ _⟩ fullShare
  rw [h1]
  exact bigSep_congr fun c _ => Transfers.pointsTo_deal (ℓ := xLoc d) (S := Finset.univ) (f := f) (Finset.univ : Finset (Fin 16)) ⟨0, Finset.mem_univ _⟩ _

omit [FloatOps F] in
theorem pv_rows (d : Dev nD) (f : Buf (Elt F) (pvLoc d)) :
    (pvLoc d ↦{fullShare} f : sProp (MM F)) = bigSep Finset.univ fun c : Fin 2 => bigSep Finset.univ fun i : Fin 16 => pvLoc d ↦[rowSet (c, i)]{fullShare} f := by
  rw [← bigSep_univ_prod (fun p : Fin 2 × Fin 16 => (pvLoc d ↦[rowSet p]{fullShare} f : sProp (MM F)))]
  rw [← pointsTo_biUnion Finset.univ (ℓ := pvLoc d) rowSet rows_disjoint, rows_cover]
omit [FloatOps F] in
theorem pi_rows (d : Dev nD) (f : Buf (Elt F) (piLoc d)) :
    (piLoc d ↦{fullShare} f : sProp (MM F)) = bigSep Finset.univ fun c : Fin 2 => bigSep Finset.univ fun i : Fin 16 => piLoc d ↦[rowSet (c, i)]{fullShare} f := by
  rw [← bigSep_univ_prod (fun p : Fin 2 × Fin 16 => (piLoc d ↦[rowSet p]{fullShare} f : sProp (MM F)))]
  rw [← pointsTo_biUnion Finset.univ (ℓ := piLoc d) rowSet rows_disjoint, rows_cover]

omit [FloatOps F] in
/-- The three arrays whole are every tile's part. -/
theorem tiles_eq (d : Dev nD) (f : Buf (Elt F) (xLoc d)) (g : Buf (Elt F) (pvLoc d)) (h : Buf (Elt F) (piLoc d)) :
    (bigSep Finset.univ fun c : Fin ((K (F := F)).nCore 0) => bigSep Finset.univ fun i : Fin ((K (F := F)).nSub 0) =>
        iprop((xLoc d ↦{xq (pair c i)} f) ∗ (pvLoc d ↦[rowSet (pair c i)]{fullShare} g) ∗ (piLoc d ↦[rowSet (pair c i)]{fullShare} h)))
      = (iprop((xLoc d ↦{fullShare} f) ∗ (pvLoc d ↦{fullShare} g) ∗ (piLoc d ↦{fullShare} h)) : sProp (MM F)) := by
  rw [x_shares, pv_rows, pi_rows, ← bigSep_sep', ← bigSep_sep']
  refine bigSep_congr fun c _ => ?_
  rw [← bigSep_sep', ← bigSep_sep']
  rfl

theorem st0_eq (d : Dev nD) : (bigSep Finset.univ fun c : Fin ((K (F := F)).nCore 0) => (P m).st 0 d c)
    = iprop((xLoc d ↦{fullShare} m (xLoc d)) ∗ (pvLoc d ↦{fullShare} m (pvLoc d)) ∗ (piLoc d ↦{fullShare} m (piLoc d))) :=
  tiles_eq d _ _ _
theorem dn0_eq (d : Dev nD) : (bigSep Finset.univ fun c : Fin ((K (F := F)).nCore 0) => (P m).dn 0 d c)
    = iprop((xLoc d ↦{fullShare} m (xLoc d)) ∗ (pvLoc d ↦{fullShare} pvF m d) ∗ (piLoc d ↦{fullShare} piF m d)) :=
  tiles_eq d _ _ _

/-! ## The TensorCore between the calls -/

omit [FloatOps F] in
theorem otc_one (d : Dev nD) : (K (F := F)).Otc d 1 = 0 := by
  unfold SparseCore.Cfg.Otc
  exact Finset.sum_eq_zero fun q _ => if_neg (by have := q.isLt; omega)

/-- What the thread keeps of the handshakes after the call, the debt apart. -/
def tcTail (d : Dev nD) : sProp (MM F) :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) : ((K (F := F)).tcSt EH d 1 : sProp (MM F)) = iprop(idle d ∗ tcTail d) := by
  unfold SparseCore.Cfg.tcSt tcTail
  rw [otc_one]; rfl

/-- A TensorCore call's step. -/
theorem wp_entry {p : Fin 2} (R : Pipeline.RDat.RegionSeg (pcfgs (F := F)) adm (rdats m) none defs₀ 𝒱₀ (K (F := F)).L (K (F := F)).lev p)
    (d : Dev nD) (Q : PUnit → sProp (MM F)) :
    iprop((iprop(boundary (T d) ∗ R.post d) -∗ Q ⟨⟩) ∗ boundary (T d) ∗ R.pre d ∗ levAts (K (F := F)).L (K (F := F)).lev
        ∗ cellsGhost (pin (pcfgs (F := F)) adm) EP p d ∗ toksInit (pin (pcfgs (F := F)) adm) EP p d)
      ⊢ wp frame (wpE ((K (F := F)).defs (D (F := F))) 𝒱 (T d) none) Set.univ
          (Prog.lift (.customCall (SparseCore.inner (Pipeline.entry p)) ())) Q := by
  change _ ⊢ wp frame (wpE ((K (F := F)).defs (D (F := F))) 𝒱 (T d) none) Set.univ (SparseCore.liftProg (Prog.lift (.customCall (Pipeline.entry p) ()))) Q
  iintro ⟨HQ, H⟩
  iapply ((K (F := F)).wp_liftProg (D (F := F)) 𝒱 (T d) Set.univ none (Prog.lift (.customCall (Pipeline.entry p) ())) Q)
  iapply (Pipeline.RDat.RegionSeg.wp (pcfgs (F := F)) adm (rdats m) none cellOf_inj EP defs₀ 𝒱₀ (K (F := F)).L (K (F := F)).lev R d
    none (fun _ h => nomatch h) Prog.ret Q)
  isplitl [HQ]
  · iintro HB
    rw [wp_ret]; imodintro
    iapply HQ $$ HB
  iexact H

/-! ## @main -/

abbrev pre1 (d : Dev nD) : sProp (MM F) :=
  iprop(((yLoc d ↦{fullShare} m (yLoc d)) ∗ (xLoc d ↦{fullShare} m (xLoc d)) ∗ (raLoc d ↦{fullShare} m (raLoc d))
    ∗ (xvLoc d ↦{fullShare} m (xvLoc d)) ∗ (xiLoc d ↦{fullShare} m (xiLoc d))) ∗ idle d)
abbrev post1 (d : Dev nD) : sProp (MM F) :=
  iprop(((yLoc d ↦{fullShare} m (yLoc d)) ∗ (xLoc d ↦{fullShare} m (xLoc d)) ∗ (raLoc d ↦{fullShare} raF (m (yLoc d)))
    ∗ (xvLoc d ↦{fullShare} xvF (m (xLoc d))) ∗ (xiLoc d ↦{fullShare} xiF (m (xLoc d)))) ∗ idle d)
abbrev pre2 (d : Dev nD) : sProp (MM F) :=
  iprop(((pvLoc d ↦{fullShare} pvF m d) ∗ (piLoc d ↦{fullShare} piF m d) ∗ (xvLoc d ↦{fullShare} xvF (m (xLoc d)))
    ∗ (xiLoc d ↦{fullShare} xiF (m (xLoc d))) ∗ (raLoc d ↦{fullShare} raF (m (yLoc d))) ∗ (oLoc d ↦{fullShare} m (oLoc d))) ∗ idle d)

theorem reg1_pre (d : Dev nD) : (reg1 m).pre d = pre1 m d := rfl
theorem reg1_post (d : Dev nD) : (reg1 m).post d = post1 m d := rfl
theorem reg2_pre (d : Dev nD) : (reg2 m).pre d = pre2 m d := rfl
theorem reg2_post (d : Dev nD) : (reg2 m).post d = iprop((oLoc d ↦{fullShare} oF m d) ∗ idle d) := rfl

abbrev FIN (d : Dev nD) : sProp (MM F) :=
  iprop((xLoc d ↦{fullShare} m (xLoc d)) ∗ (yLoc d ↦{fullShare} m (yLoc d)) ∗ (oLoc d ↦{fullShare} oF m d))

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq, G_eq]
  simp only [main, wp_bind, wp_pure]
  iintro ⟨#Hctx, Hst, ⟨Hb, ⟨Hx, Hy, Hpv, Hpi, Hra, Hxv, Hxi, Ho⟩, Hts, -⟩, ⟨Hg0, Hg1⟩, Ht0, Ht1⟩
  ihave Hlev := (SparseCore.Cfg.ctx_levAts κ) $$ Hctx
  icases Hlev with #Hlev
  iapply ((K (F := F)).wp_run (D (F := F)) 𝒱 (EH := EH) (P := P m) κ d 0) $$ [Hst Hx Hy Hpv Hpi Hra Hxv Hxi Ho Hb Hts Hg0 Hg1 Ht0 Ht1]
  isplitr; · iexact Hctx
  isplitl [Hst]; · iexact Hst
  isplitl [Hx Hpv Hpi]
  · rw [st0_eq]
    isplitl [Hx]; · iexact Hx
    isplitl [Hpv]; · iexact Hpv
    iexact Hpi
  iintro ⟨Hst, Hdn⟩
  ihave Hdn' := (Entails.of_eq (dn0_eq m d)) $$ Hdn
  icases Hdn' with ⟨Hx, Hpv, Hpi⟩
  ihave Hst' := (Entails.of_eq (show ((K (F := F)).tcSt EH d ((0 : Fin 1).val + 1) : sProp (MM F)) = iprop(idle d ∗ tcTail d) from tcSt_one d)) $$ Hst
  icases Hst' with ⟨HO, Htail⟩
  iapply (wp_entry m (reg1 m) d)
  rw [reg1_pre, reg1_post]
  isplitr [Hb Hy Hx Hra Hxv Hxi HO Hg0 Ht0]
  swap
  · isplitl [Hb]; · iexact Hb
    isplitl [Hy Hx Hra Hxv Hxi HO]
    · isplitr [HO]
      swap; · iexact HO
      isplitl [Hy]; · iexact Hy
      isplitl [Hx]; · iexact Hx
      isplitl [Hra]; · iexact Hra
      isplitl [Hxv]; · iexact Hxv
      iexact Hxi
    isplitr; · iexact Hlev
    isplitl [Hg0] <;> iassumption
  iintro ⟨Hb, ⟨Hy, Hx, Hra, Hxv, Hxi⟩, HO⟩
  iapply (wp_entry m (reg2 m) d)
  rw [reg2_pre, reg2_post]
  isplitr [Hb Hpv Hpi Hra Hxv Hxi Ho HO Hg1 Ht1]
  swap
  · isplitl [Hb]; · iexact Hb
    isplitl [Hpv Hpi Hra Hxv Hxi Ho HO]
    · isplitr [HO]
      swap; · iexact HO
      isplitl [Hpv]; · iexact Hpv
      isplitl [Hpi]; · iexact Hpi
      isplitl [Hxv]; · iexact Hxv
      isplitl [Hxi]; · iexact Hxi
      isplitl [Hra]; · iexact Hra
      iexact Ho
    isplitr; · iexact Hlev
    isplitl [Hg1] <;> iassumption
  iintro ⟨Hb, Ho, HO⟩
  imodintro
  isplitl [HO Htail]
  · rw [tcSt_one]
    isplitl [HO] <;> iassumption
  isplitl [Hx Hy Ho]
  · isplitl [Hx]; · iexact Hx
    isplitl [Hy]; · iexact Hy
    iexact Ho
  isplitl [Hb] <;> iassumption

/-! ## The run -/

def fq (d : Dev nD) (s' : Phys nD τ sig (Elt F)) : Prop :=
  s'.mem.mem (xLoc d) = m (xLoc d) ∧ s'.mem.mem (yLoc d) = m (yLoc d) ∧ s'.mem.mem (oLoc d) = oF m d

theorem hfin (d : Dev nD) (s' : Phys nD τ sig (Elt F)) : iprop(FIN m d ∗ SI s') ⊢ (⌜fq m d s'⌝ : sProp (MM F)) := by
  iintro ⟨⟨Hx, Hy, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := yLoc d) (I := Finset.univ) (q := fullShare) (f := m (yLoc d)))) $$ [HSI Hy]
  · isplitl [HSI] <;> iassumption
  icases H with ⟨%h2, HSI, -⟩
  ihave H := (SI_pointsTo_agree (st := s') (ℓ := oLoc d) (I := Finset.univ) (q := fullShare) (f := oF m d)) $$ [HSI Ho]
  · isplitl [HSI] <;> iassumption
  icases H with %h3
  ipureintro
  exact ⟨funext fun (i : Idx (xLoc d)) => h1 i (Finset.mem_univ i), funext fun (i : Idx (yLoc d)) => h2 i (Finset.mem_univ i),
    funext fun (i : Idx (oLoc d)) => h3 i (Finset.mem_univ i)⟩

/-- What the run ends at: the two arguments as they were, the result, every semaphore at zero. -/
def QC : PUnit × MemSt nD τ sig (Elt F) → Prop := fun r =>
  (∀ c : Dev nD, r.2.mem (xLoc c) = m (xLoc c) ∧ r.2.mem (yLoc c) = m (yLoc c) ∧ r.2.mem (oLoc c) = oF m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof
-- ==== Proof.Frames.lean ====
/-
  The kernel's two frame claims, as printed and idealized, from the one run.
-/
module

public import proofs.«01_k».proof.Proof.Run
public import proofs.«01_k».proof.Proof.Gen.Kernel

@[expose] public section

noncomputable section

namespace Cert.Proof

open Idealize.ShloMosaic Idealize.SL.Sem

/-- The idealized kernel runs and leaves its arguments. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩) (run_main (F := Ideal) m ρ)

set_option smartUnfolding false in
/-- The program as printed is the same text, so it has the same runs; seen once both are unfolded. -/
theorem as_printed {s : MemSt Cert.KernelIdeal.nD Cert.KernelIdeal.τ Cert.KernelIdeal.sig (Elt Bits)}
    {Q : PUnit × MemSt Cert.KernelIdeal.nD Cert.KernelIdeal.τ Cert.KernelIdeal.sig (Elt Bits) → Prop}
    (h : θ_run (Cert.KernelIdeal.defs (F := Bits)) (Cert.KernelIdeal.threads (F := Bits)) s Q) :
    θ_run (Cert.Kernel.defs (F := Bits)) (Cert.Kernel.threads (F := Bits)) s Q := h

/-- The kernel as printed runs and leaves its arguments. -/
theorem frame_kernel : Cert.quiescent_Kernel := fun m ρ _ =>
  (θ_run (Cert.Kernel.defs (F := Bits)) _ _).mono (fun _ h => ⟨fun c => ⟨(h.1 c).1, (h.1 c).2.1⟩, h.2⟩) (as_printed (run_main (F := Bits) m ρ))

end Cert.Proof
-- ==== Proof.Ref.lean ====
/-
  The reference's run: a line of host operations, what its result holds, and its frame.
-/
module

public import proofs.«01_k».proof.Defs
public import proofs.«01_k».proof.Proof.Gen.ReferenceIdeal
public import Idealize.ShloMosaic.Lib.Claim
public import Idealize.ShloMosaic.Lib.Quiescent

@[expose] public section

noncomputable section

namespace Cert.Proof.Ref

open Cert.ReferenceIdeal Cert.ReferenceIdeal.Gen
open Idealize.ShloMosaic Idealize.ShloMosaic.StableHlo Idealize.ShloMosaic.TcCoe Idealize.SL.Sem

variable {F : FTy → Type} [FloatOps F]

/-- The position of the whole array's maximum, as the reference folds for it. -/
def flat (x : S64x32768.Idx → F .f32) : IVec S_ 32 := fun j =>
  (Host.argReduce reducer_argmax_f32_i32 (shapeCast S2097152 x shapeCasts_S64x32768_S2097152) (iotaInDim S2097152 32 0)
    (constant S_ .f32 0xFF800000#32) (constantI S_ 32 0#32) reducesTo_S2097152_S_d0 h_S_ j).2

/-- The position of each row's maximum, likewise. -/
def rows (y : S64x32768.Idx → F .f32) : IVec S64 32 := fun j =>
  (Host.argReduce reducer_argmax_f32_i32 y (iotaInDim S64x32768 32 1)
    (constant S_ .f32 0xFF800000#32) (constantI S_ 32 0#32) reducesTo_S64x32768_S64_d1 h_S_ j).2

/-- The reference's result. -/
def out (x y : S64x32768.Idx → F .f32) : IVec S64 32 := addi (broadcastInDim S64 ![] bcast_S_S64 (flat x)) (rows y)

/-- The run's operations, in order. -/
abbrev ops : List (HloOp τ sig (Elt F)) :=
  [ reshape main_arg0 main_v0 rfl shapeCasts_S64x32768_S2097152,
    TRef.nullary main_call0.v0 (iotaInDim S2097152 32 0),
    TRef.nullary main_call0.cst (constant S_ .f32 0xFF800000#32),
    TRef.nullary main_call0.c (constantI S_ 32 0#32),
    TRef.quaternary (.of main_v0) main_call0.v0 main_call0.cst main_call0.c main_call0.v1_0 (fun x y u v j =>
      (Host.argReduce reducer_argmax_f32_i32 x y u v reducesTo_S2097152_S_d0 h_S_ j).1),
    TRef.quaternary (.of main_v0) main_call0.v0 main_call0.cst main_call0.c main_call0.v1_1 (fun x y u v j =>
      (Host.argReduce reducer_argmax_f32_i32 x y u v reducesTo_S2097152_S_d0 h_S_ j).2),
    TRef.nullary main_call1.v0 (iotaInDim S64x32768 32 1),
    TRef.nullary main_call1.cst (constant S_ .f32 0xFF800000#32),
    TRef.nullary main_call1.c (constantI S_ 32 0#32),
    TRef.quaternary (.of main_arg1) main_call1.v0 main_call1.cst main_call1.c main_call1.v1_0 (fun x y u v j =>
      (Host.argReduce reducer_argmax_f32_i32 x y u v reducesTo_S64x32768_S64_d1 h_S_ j).1),
    TRef.quaternary (.of main_arg1) main_call1.v0 main_call1.cst main_call1.c main_call1.v1_1 (fun x y u v j =>
      (Host.argReduce reducer_argmax_f32_i32 x y u v reducesTo_S64x32768_S64_d1 h_S_ j).2),
    unary main_v1 main_v3 (broadcastInDim S64 ![] bcast_S_S64),
    binary main_v3 main_v2 main_v4 addi ]

theorem main_eq (c : Dev nD) : main (F := F) c = seq ops := by
  simp only [main, fn_argmax.body, fn_argmax_0.body, seq, bind_assoc, pure_bind]

theorem out_eq (V : Valuation τ sig (Elt F)) :
    after ops V (main_v4 : DevRef τ sig) = out (V (main_arg0 : DevRef τ sig)) (V (main_arg1 : DevRef τ sig)) := by
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem no_buf : (Finset.univ.filter fun b : Ref sig .tc => b.isScoped) = ∅ := by decide
theorem no_sem : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., nullary_bufs_sub .., nullary_bufs_sub .., quaternary_bufs_sub ..,
    quaternary_bufs_sub .., nullary_bufs_sub .., nullary_bufs_sub .., nullary_bufs_sub .., quaternary_bufs_sub ..,
    quaternary_bufs_sub .., unary_bufs_sub .., binary_bufs_sub ..⟩

/-- The reference runs; its result is `out` of the arguments, which it leaves alone. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v4).trans (out_eq _), (h c main_arg0).trans (arg0_eq _),
      (h c main_arg1).trans (arg1_eq _)⟩)
    (run_seq no_buf no_sem defs main (fun _ => ops) main_eq (fun _ => ops_sub) m ρ)

/-- The reference's frame; it has no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (run_ref (F := Ideal) m ρ)

end Cert.Proof.Ref
-- ==== Proof.First.lean ====
/-
  The first maximum: where, over a set of positions, a sequence of extended reals is largest, the least such position.
  A candidate is a value with its position as a word; candidates of sets merge into one of the union.
-/
module

public import Idealize.ShloMosaic.PureOps
public import Idealize.ShloMosaic.PureOps.Ideal
public import Idealize.ShloMosaic.PureOps.Ideal.Laws
public import Idealize.ShloMosaic.PureOps.Reduce

@[expose] public section

noncomputable section

namespace Cert.Proof

open Idealize.ShloMosaic

/-- `v` is the largest value of `X` over `S`, and `i` the least position of `S` that attains it. -/
def FirstMax (X : ℕ → EReal) (S : Set ℕ) (v : EReal) (i : ℕ) : Prop :=
  i ∈ S ∧ X i = v ∧ ∀ j ∈ S, X j ≤ v ∧ (X j = v → i ≤ j)

variable {X : ℕ → EReal} {S T : Set ℕ} {v v' : EReal} {i i' : ℕ}

/-- A set has one first maximum. -/
theorem FirstMax.unique (h : FirstMax X S v i) (h' : FirstMax X S v' i') : v = v' ∧ i = i' := by
  obtain ⟨h1, h2, h3⟩ := h
  obtain ⟨h1', h2', h3'⟩ := h'
  have hv : v = v' := le_antisymm (h2 ▸ (h3' i h1).1) (h2' ▸ (h3 i' h1').1)
  subst hv
  exact ⟨rfl, le_antisymm ((h3 i' h1').2 h2') ((h3' i h1).2 h2)⟩

/-- The left of two candidates stands for the union where it wins, -/
theorem FirstMax.left (h : FirstMax X S v i) (h' : FirstMax X T v' i') (hw : v' < v ∨ v = v' ∧ i ≤ i') :
    FirstMax X (S ∪ T) v i := by
  obtain ⟨h1, h2, h3⟩ := h
  obtain ⟨h1', h2', h3'⟩ := h'
  refine ⟨Or.inl h1, h2, fun j hj => ?_⟩
  rcases hj with hj | hj
  · exact h3 j hj
  · rcases hw with hw | ⟨rfl, hw⟩
    · exact ⟨(h3' j hj).1.trans hw.le, fun e => absurd hw (not_lt.2 (e ▸ (h3' j hj).1))⟩
    · exact ⟨(h3' j hj).1, fun e => hw.trans ((h3' j hj).2 e)⟩

/-- and so does the right. -/
theorem FirstMax.right (h : FirstMax X S v i) (h' : FirstMax X T v' i') (hw : v < v' ∨ v' = v ∧ i' ≤ i) :
    FirstMax X (S ∪ T) v' i' := by
  rw [Set.union_comm]
  exact h'.left h hw

theorem FirstMax.single (n : ℕ) : FirstMax X {n} (X n) n :=
  ⟨rfl, rfl, fun j hj => by cases hj; exact ⟨le_rfl, fun _ => le_rfl⟩⟩

/-- What a fold from (−∞, 0) knows after the positions `S`: a first maximum, or nothing yet. -/
def Sofar (X : ℕ → EReal) (S : Set ℕ) (v : EReal) (i : ℕ) : Prop :=
  (∀ j ∈ S, X j ≤ v ∧ (X j = v → i ≤ j)) ∧ (v = ⊥ ∧ i = 0 ∨ i ∈ S ∧ X i = v)

theorem Sofar.empty : Sofar X ∅ ⊥ 0 := ⟨fun _ h => h.elim, Or.inl ⟨rfl, rfl⟩⟩

/-- Once position 0 is among them it is one. -/
theorem Sofar.firstMax (h : Sofar X S v i) (h0 : 0 ∈ S) : FirstMax X S v i := by
  obtain ⟨h1, h2⟩ := h
  rcases h2 with ⟨rfl, rfl⟩ | ⟨h2, h3⟩
  · exact ⟨h0, le_bot_iff.1 (h1 0 h0).1, h1⟩
  · exact ⟨h2, h3, h1⟩

/-- One position more, larger than what is held: it is taken; -/
theorem Sofar.take (h : Sofar X S v i) {n : ℕ} (hn : v < X n) : Sofar X (insert n S) (X n) n := by
  refine ⟨fun j hj => ?_, Or.inr ⟨Set.mem_insert _ _, rfl⟩⟩
  rcases hj with rfl | hj
  · exact ⟨le_rfl, fun _ => le_rfl⟩
  · exact ⟨(h.1 j hj).1.trans hn.le, fun e => absurd hn (not_lt.2 (e ▸ (h.1 j hj).1))⟩

/-- no larger, and not earlier where it is equal: what is held stays; -/
theorem Sofar.keep (h : Sofar X S v i) {n : ℕ} (hn : X n ≤ v) (hi : X n = v → i ≤ n) : Sofar X (insert n S) v i := by
  refine ⟨fun j hj => ?_, h.2.imp_right fun h => ⟨Set.mem_insert_of_mem _ h.1, h.2⟩⟩
  rcases hj with rfl | hj
  · exact ⟨hn, hi⟩
  · exact h.1 j hj

/-- equal, and no later: its position is taken. -/
theorem Sofar.tie (h : Sofar X S v i) {n : ℕ} (hn : X n = v) (hi : n ≤ i) : Sofar X (insert n S) v n := by
  refine ⟨fun j hj => ?_, Or.inr ⟨Set.mem_insert _ _, hn⟩⟩
  rcases hj with rfl | hj
  · exact ⟨hn.le, fun _ => le_rfl⟩
  · exact ⟨(h.1 j hj).1, fun e => hi.trans ((h.1 j hj).2 e)⟩

/-! ## Positions as words -/

theorem toInt_small {a : ℕ} (ha : a < 2147483648) : (BitVec.ofNat 32 a).toInt = a := by
  rw [BitVec.toInt_eq_toNat_of_lt (by rw [BitVec.toNat_ofNat]; omega), BitVec.toNat_ofNat]
  omega

theorem slt_small {a b : ℕ} (ha : a < 2147483648) (hb : b < 2147483648) :
    (BitVec.ofNat 32 a).slt (BitVec.ofNat 32 b) = decide (a < b) := by
  rw [BitVec.slt_eq_decide, toInt_small ha, toInt_small hb]
  simp

/-- A candidate for the positions `S`: their maximum and, as a word, its first position. -/
def Best (X : ℕ → EReal) (S : Set ℕ) (v : EReal) (w : BitVec 32) : Prop :=
  ∃ i < 2097152, w = BitVec.ofNat 32 i ∧ FirstMax X S v i

variable {w w' : BitVec 32}

theorem Best.of_set (h : Best X S v w) (e : ∀ n, n ∈ S ↔ n ∈ T) : Best X T v w := Set.ext e ▸ h

theorem Best.unique (h : Best X S v w) (h' : Best X S v' w') : v = v' ∧ w = w' := by
  obtain ⟨i, hi, rfl, h⟩ := h
  obtain ⟨i', hi', rfl, h'⟩ := h'
  obtain ⟨e, rfl⟩ := h.unique h'
  exact ⟨e, rfl⟩

/-! ## The operations on values and words -/

theorem sel_true {α : Type} (p : Prop) [Decidable p] (hp : p) (a b : α) : Scalar.select (BitVec.ofBool (decide p)) a b = a := by
  simp [Scalar.select, hp]
theorem sel_false {α : Type} (p : Prop) [Decidable p] (hp : ¬p) (a b : α) : Scalar.select (BitVec.ofBool (decide p)) a b = b := by
  simp [Scalar.select, hp]

theorem or_bit (p q : Prop) [Decidable p] [Decidable q] :
    IntOp.ori (BitVec.ofBool (decide p)) (BitVec.ofBool (decide q)) = BitVec.ofBool (decide (p ∨ q)) := by
  by_cases hp : p <;> by_cases hq : q <;> simp [IntOp.ori, hp, hq]
theorem and_bit (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

theorem cmp_gt (a b : Ideal .f32) : FloatOps.cmpf (F := Ideal) .ogt a b = BitVec.ofBool (decide (b < a)) := rfl
theorem cmp_eq (a b : Ideal .f32) : FloatOps.cmpf (F := Ideal) .oeq a b = BitVec.ofBool (decide (a = b)) := rfl
theorem cmp_ne (a b : Ideal .f32) : FloatOps.cmpf (F := Ideal) .une a b = BitVec.ofBool (decide (a ≠ b)) := rfl
theorem cmp_lt {a b : ℕ} (ha : a < 2147483648) (hb : b < 2147483648) :
    IntOp.cmpi .slt (BitVec.ofNat 32 a) (BitVec.ofNat 32 b) = BitVec.ofBool (decide (a < b)) :=
  congrArg BitVec.ofBool (slt_small ha hb)

theorem neg_inf : (FloatOps.ofBits (F := Ideal) .f32 0xFF800000#32) = (⊥ : EReal) := by
  show Ideal.ofBits .f32 0xFF800000#32 = ⊥
  simp [Ideal.ofBits, Ideal.ieee]

/-- Merged: the larger value, on a tie the smaller position. -/
theorem Best.merge {v v' : Ideal .f32} (h : Best X S v w) (h' : Best X T v' w') :
    Best X (S ∪ T)
      (Scalar.select (IntOp.ori (FloatOps.cmpf .ogt v v') (IntOp.andi (FloatOps.cmpf .oeq v v') (IntOp.cmpi .slt w w'))) v v')
      (Scalar.select (IntOp.ori (FloatOps.cmpf .ogt v v') (IntOp.andi (FloatOps.cmpf .oeq v v') (IntOp.cmpi .slt w w'))) w w') := by
  obtain ⟨i, hi, rfl, h⟩ := h
  obtain ⟨i', hi', rfl, h'⟩ := h'
  rw [cmp_gt, cmp_eq, cmp_lt (by omega) (by omega), and_bit, or_bit]
  by_cases hw : v' < v ∨ v = v' ∧ i < i'
  · rw [sel_true _ hw, sel_true _ hw]
    exact ⟨i, hi, rfl, h.left h' (hw.imp_right fun e => ⟨e.1, e.2.le⟩)⟩
  · rw [sel_false _ hw, sel_false _ hw]
    refine ⟨i', hi', rfl, h.right h' ?_⟩
    rw [not_or] at hw
    rcases lt_or_eq_of_le (not_lt.1 hw.1) with e | e
    · exact Or.inl e
    · exact Or.inr ⟨e.symm, not_lt.1 fun hlt => hw.2 ⟨e, hlt⟩⟩

/-- Merged with a set of later positions: these win where they are strictly larger. -/
theorem Best.later {v v' : Ideal .f32} (h : Best X S v w) (h' : Best X T v' w') (hST : ∀ a ∈ S, ∀ b ∈ T, a < b) :
    Best X (S ∪ T) (Scalar.select (FloatOps.cmpf .ogt v' v) v' v) (Scalar.select (FloatOps.cmpf .ogt v' v) w' w) := by
  obtain ⟨i, hi, rfl, h⟩ := h
  obtain ⟨i', hi', rfl, h'⟩ := h'
  rw [cmp_gt]
  by_cases hw : v < v'
  · rw [sel_true _ hw, sel_true _ hw]
    exact ⟨i', hi', rfl, h.right h' (Or.inl hw)⟩
  · rw [sel_false _ hw, sel_false _ hw]
    refine ⟨i, hi, rfl, h.left h' ?_⟩
    rcases lt_or_eq_of_le (not_lt.1 hw) with e | e
    · exact Or.inl e
    · exact Or.inr ⟨e.symm, (hST _ h.1 _ h'.1).le⟩

/-! ## Folds -/

/-- A fold of the signed minimum is below all it folds, and one of them. -/
theorem minFold {κ : Type} [DecidableEq κ] (b : BitVec 32) (f : κ → BitVec 32) (s : Finset κ) :
    (s.fold IntOp.minsi b f).toInt ≤ b.toInt ∧ (∀ k ∈ s, (s.fold IntOp.minsi b f).toInt ≤ (f k).toInt)
      ∧ (s.fold IntOp.minsi b f = b ∨ ∃ k ∈ s, s.fold IntOp.minsi b f = f k) := by
  induction s using Finset.induction_on with
  | empty => simp
  | insert a s ha ih =>
    rw [Finset.fold_insert ha]
    obtain ⟨h1, h2, h3⟩ := ih
    generalize s.fold IntOp.minsi b f = r at h1 h2 h3
    have hm : IntOp.minsi (f a) r = f a ∧ (f a).toInt ≤ r.toInt ∨ IntOp.minsi (f a) r = r ∧ r.toInt ≤ (f a).toInt := by
      unfold IntOp.minsi
      rw [BitVec.slt_eq_decide]
      by_cases h : (f a).toInt < r.toInt
      · left; simp [h, h.le]
      · right; simp [h, not_lt.1 h]
    rcases hm with ⟨e, h⟩ | ⟨e, h⟩
    · rw [e]
      refine ⟨h.trans h1, fun k hk => ?_, Or.inr ⟨a, Finset.mem_insert_self _ _, rfl⟩⟩
      rcases Finset.mem_insert.1 hk with rfl | hk
      · exact le_rfl
      · exact h.trans (h2 k hk)
    · rw [e]
      refine ⟨h1, fun k hk => ?_, h3.imp_right fun ⟨k, hk, e⟩ => ⟨k, Finset.mem_insert_of_mem hk, e⟩⟩
      rcases Finset.mem_insert.1 hk with rfl | hk
      · exact h
      · exact h2 k hk

/-- A fold of the maximum from −∞ likewise. -/
theorem maxFold {κ : Type} [DecidableEq κ] (f : κ → EReal) (s : Finset κ) (hs : s.Nonempty) :
    (∀ k ∈ s, f k ≤ s.fold max ⊥ f) ∧ ∃ k ∈ s, s.fold max ⊥ f = f k := by
  have e : s.fold max ⊥ f = s.sup f := rfl
  rw [e]
  exact ⟨fun k hk => Finset.le_sup hk, (Finset.exists_mem_eq_sup s hs f)⟩

/-- Of a family of candidates, the words whose values reach `g`, folded for the least: nothing where none does, else the
    first position in the whole of a value `g` that bounds them all. -/
theorem pick {κ : Type} [DecidableEq κ] (s : Finset κ) (A : κ → Set ℕ) (V : κ → Ideal .f32) (W : κ → BitVec 32)
    (hb : ∀ k ∈ s, Best X (A k) (V k) (W k)) (g : Ideal .f32) (hg : ∀ k ∈ s, V k ≤ g) (r : BitVec 32)
    (hr : r = s.fold IntOp.minsi 2147483647#32 (fun k => Scalar.select (FloatOps.cmpf .oeq (V k) g) (W k) 2147483647#32)) :
    (r = 2147483647#32 ∧ ∀ k ∈ s, V k ≠ g) ∨ Best X {n | ∃ k ∈ s, n ∈ A k} g r := by
  obtain ⟨-, h2, h3⟩ := minFold 2147483647#32 (fun k => Scalar.select (FloatOps.cmpf .oeq (V k) g) (W k) 2147483647#32) s
  rw [← hr] at h2 h3
  have big : (2147483647#32 : BitVec 32).toInt = 2147483647 := by decide
  by_cases hx : ∃ k ∈ s, V k = g
  · right
    obtain ⟨k₀, hk₀, e₀⟩ := hx
    have hk := h2 k₀ hk₀
    simp only [cmp_eq] at hk h2 h3
    rw [sel_true _ e₀] at hk
    obtain ⟨i₀, hi₀, ew₀, -⟩ := hb k₀ hk₀
    rw [ew₀, toInt_small (by omega)] at hk
    rcases h3 with h3 | ⟨k, hks, h3⟩
    · rw [h3, big] at hk; omega
    · by_cases ek : V k = g
      · rw [sel_true _ ek] at h3
        obtain ⟨i, hi, ew, hF⟩ := hb k hks
        refine ⟨i, hi, h3.trans ew, ⟨k, hks, hF.1⟩, hF.2.1.trans ek, fun j ⟨k', hk', hj⟩ => ?_⟩
        obtain ⟨i', hi', ew', hF'⟩ := hb k' hk'
        refine ⟨(hF'.2.2 j hj).1.trans (hg k' hk'), fun e => ?_⟩
        have ek' : V k' = g := le_antisymm (hg k' hk') (e ▸ (hF'.2.2 j hj).1)
        have := h2 k' hk'
        rw [sel_true _ ek', ew', h3, ew, toInt_small (by omega), toInt_small (by omega)] at this
        have h4 := (hF'.2.2 j hj).2 (e.trans ek'.symm)
        omega
      · rw [sel_false _ ek] at h3
        rw [h3, big] at hk; omega
  · left
    refine ⟨?_, fun k hk e => hx ⟨k, hk, e⟩⟩
    rcases h3 with h3 | ⟨k, hks, h3⟩
    · exact h3
    · rw [cmp_eq, sel_false _ fun e => hx ⟨k, hks, e⟩] at h3
      exact h3

/-- The bound reached: a first maximum. -/
theorem pick_max {κ : Type} [DecidableEq κ] (s : Finset κ) (hs : s.Nonempty) (A : κ → Set ℕ) (V : κ → Ideal .f32) (W : κ → BitVec 32)
    (hb : ∀ k ∈ s, Best X (A k) (V k) (W k)) :
    Best X {n | ∃ k ∈ s, n ∈ A k} (s.fold max ⊥ V)
      (s.fold IntOp.minsi 2147483647#32 (fun k => Scalar.select (FloatOps.cmpf (F := Ideal) .oeq (V k) (s.fold max ⊥ V)) (W k) 2147483647#32)) := by
  obtain ⟨h1, k, hk, e⟩ := maxFold V s hs
  rcases pick s A V W hb (s.fold max ⊥ V) h1 _ rfl with h | h
  · exact absurd e.symm (h.2 k hk)
  · exact h

end Cert.Proof
-- ==== Proof.Lanes.lean ====
/-
  What a tile finds, over the extended reals: per lane, the first maximum of the words of that lane.
-/
module

public import proofs.«01_k».proof.Proof.Fns
public import proofs.«01_k».proof.Proof.First
public import Idealize.ShloMosaic.Lib.Pipeline.Value

@[expose] public section

noncomputable section

namespace Cert.Proof

open Cert.KernelIdeal Cert.KernelIdeal.Gen
open Idealize.ShloMosaic

variable (b : S16384.Idx → Ideal .f32) (j : S16.Idx)

/-- A chunk's words by number. -/
abbrev word (n : ℕ) : EReal := b (pos n)

theorem updV_at (v a : FVec Ideal S16 .f32) : updV v a j = Scalar.select (FloatOps.cmpf .ogt (v j) (a j)) (v j) (a j) := by
  unfold updV; rw [shapeCast_self]; rfl
theorem updI_at (k : BitVec 32) (v a : FVec Ideal S16 .f32) (i : IVec S16 32) :
    updI k v a i j = Scalar.select (FloatOps.cmpf .ogt (v j) (a j)) k (i j) := by
  unfold updI; rw [shapeCast_self]; rfl

theorem below_succ (k : ℕ) : {t : ℕ | t < k + 1} = insert k {t | t < k} := by
  ext t; simp only [Set.mem_setOf_eq, Set.mem_insert_iff]; omega

/-- A lane's scan: after `k` trips it has folded the words of the trips before. -/
theorem scan_sofar (u k : ℕ) : ∃ i, (i = 0 ∨ i < k) ∧ (scan b k).2 u j = BitVec.ofNat 32 i
    ∧ Sofar (fun t => word b (128 * t + 16 * u + (j 0).val)) {t | t < k} ((scan b k).1 u j) i := by
  induction k with
  | zero =>
    refine ⟨0, Or.inl rfl, rfl, ?_⟩
    have e : {t : ℕ | t < 0} = ∅ := by ext; simp
    have e' : (scan b 0).1 u j = (⊥ : EReal) := neg_inf
    rw [e, e']
    exact Sofar.empty
  | succ k ih =>
    obtain ⟨i, hi, ew, h⟩ := ih
    have e1 : (scan b (k + 1)).1 u j = updV (ld b k u) ((scan b k).1 u) j := rfl
    have e2 : (scan b (k + 1)).2 u j = updI (BitVec.ofNat 32 k) (ld b k u) ((scan b k).1 u) ((scan b k).2 u) j := rfl
    have e3 : ld b k u j = word b (128 * k + 16 * u + (j 0).val) := rfl
    rw [e1, e2, updV_at, updI_at, cmp_gt, e3, below_succ]
    by_cases hw : (scan b k).1 u j < word b (128 * k + 16 * u + (j 0).val)
    · rw [sel_true _ hw, sel_true _ hw]
      exact ⟨k, Or.inr (Nat.lt_succ_self k), rfl, h.take (X := fun t => word b (128 * t + 16 * u + (j 0).val)) hw⟩
    · rw [sel_false _ hw, sel_false _ hw]
      refine ⟨i, by omega, ew, h.keep (X := fun t => word b (128 * t + 16 * u + (j 0).val)) (not_lt.1 hw) fun _ => by omega⟩

/-- The words of lane `l` in lane group `u`. -/
def groupSet (l u : ℕ) : Set ℕ := {n | n < 16384 ∧ n % 16 = l ∧ n / 16 % 8 = u}

/-- A group's candidate. -/
theorem cand_best (u : ℕ) (hu : u < 8) :
    Best (word b) (groupSet (j 0).val u) ((cand (scan b 128) u).1 j) ((cand (scan b 128) u).2 j) := by
  have hl : (j 0).val < 16 := (j 0).isLt
  obtain ⟨i, hi, ew, h⟩ := scan_sofar b j u 128
  obtain ⟨h1, h2, h3⟩ := h.firstMax (show 0 < 128 by decide)
  have hi' : i < 128 := h1
  refine ⟨128 * i + 16 * u + (j 0).val, by omega, ?_, ?_, h2, ?_⟩
  · show IntOp.addi (IntOp.addi (IntOp.shli .vector ((scan b 128).2 u j) 7#32) (BitVec.ofNat 32 (16 * u)))
      (BitVec.ofNat 32 (0 * 16 + (j 0).val)) = _
    rw [ew]
    have hs : IntOp.shli .vector (BitVec.ofNat 32 i) 7#32 = BitVec.ofNat 32 (128 * i) := by
      have : ∀ n : Fin 128, IntOp.shli .vector (BitVec.ofNat 32 n.val) 7#32 = BitVec.ofNat 32 (128 * n.val) := by decide +kernel
      exact this ⟨i, hi'⟩
    rw [hs]
    unfold IntOp.addi
    rw [← BitVec.ofNat_add, ← BitVec.ofNat_add, Nat.zero_mul, Nat.zero_add]
  · exact ⟨by omega, by omega, by omega⟩
  · rintro n ⟨hn, hn1, hn2⟩
    have en : n = 128 * (n / 128) + 16 * u + (j 0).val := by omega
    have := h3 (n / 128) (show n / 128 < 128 by omega)
    simp only [← en] at this
    exact ⟨this.1, fun e => by have := this.2 e; omega⟩

theorem win2_best {X : ℕ → EReal} {S T : Set ℕ} {p q : Cand Ideal} (h : Best X S (p.1 j) (p.2 j)) (h' : Best X T (q.1 j) (q.2 j)) :
    Best X (S ∪ T) ((win2 p q).1 j) ((win2 p q).2 j) := h.merge h'

/-- The words of lane `l`. -/
def laneSet (l n : ℕ) : Set ℕ := {k | k < n ∧ k % 16 = l}

/-- A chunk's candidates. -/
theorem chunk_best : Best (word b) (laneSet (j 0).val 16384) ((chunk b).1 j) ((chunk b).2 j) := by
  have hc := fun u hu => cand_best b j u hu
  have h := win2_best j
    (win2_best j (win2_best j (hc 0 (by decide)) (hc 1 (by decide))) (win2_best j (hc 2 (by decide)) (hc 3 (by decide))))
    (win2_best j (win2_best j (hc 4 (by decide)) (hc 5 (by decide))) (win2_best j (hc 6 (by decide)) (hc 7 (by decide))))
  refine h.of_set fun n => ?_
  simp only [Set.mem_union, groupSet, laneSet, Set.mem_setOf_eq]
  omega

/-- A candidate moved on by `o` words. -/
theorem Best.move {X : ℕ → EReal} {S T : Set ℕ} {v : EReal} {w : BitVec 32} (o : ℕ) (h : Best (fun n => X (o + n)) S v w)
    (hS : ∀ n, n ∈ T ↔ o ≤ n ∧ n - o ∈ S) (hb : ∀ n ∈ T, n < 2097152) : Best X T v (IntOp.addi (BitVec.ofNat 32 o) w) := by
  obtain ⟨i, hi, rfl, h1, h2, h3⟩ := h
  have hm : o + i ∈ T := (hS _).2 ⟨by omega, by rwa [Nat.add_sub_cancel_left]⟩
  refine ⟨o + i, hb _ hm, ?_, hm, h2, fun n hn => ?_⟩
  · unfold IntOp.addi; rw [← BitVec.ofNat_add]
  · obtain ⟨hn1, hn2⟩ := (hS n).1 hn
    have := h3 _ hn2
    simp only [Nat.add_sub_cancel' hn1] at this
    exact ⟨this.1, fun e => by have := this.2 e; omega⟩

/-- The words of lane `l` from word `a` up to word `z`. -/
def laneFrom (l a z : ℕ) : Set ℕ := {n | a ≤ n ∧ n < z ∧ n % 16 = l}

variable {X : ℕ → EReal}

theorem best_congr {X Y : ℕ → EReal} {S : Set ℕ} {v : EReal} {w : BitVec 32} (h : Best X S v w) (e : ∀ n ∈ S, X n = Y n) :
    Best Y S v w := by
  obtain ⟨i, hi, ew, h1, h2, h3⟩ := h
  exact ⟨i, hi, ew, h1, (e i h1) ▸ h2, fun n hn => e n hn ▸ h3 n hn⟩

/-- A chunk's candidates as positions in the tile's words. -/
theorem shift_best (k : ℕ) (hk : k < 3) (hX : ∀ n < 16384, b (pos n) = X (16384 * k + n)) :
    Best X (laneFrom (j 0).val (16384 * k) (16384 * k + 16384)) ((shift (BitVec.ofNat 32 (16384 * k)) (chunk b)).1 j)
      ((shift (BitVec.ofNat 32 (16384 * k)) (chunk b)).2 j) := by
  have hl : (j 0).val < 16 := (j 0).isLt
  refine Best.move (16384 * k) (best_congr (chunk_best b j) fun n hn => hX n hn.1) (fun n => ?_) fun n hn => ?_
  · simp only [laneFrom, laneSet, Set.mem_setOf_eq]; omega
  · have := hn.2.1; omega

/-- What a tile leaves in a lane, from its three chunks: the first maximum of the lane's words, as a flat position. -/
theorem tile_best (b0 b1 b2 : S16384.Idx → Ideal .f32) (r : ℕ) (hr : r < 32) (w : BitVec 32) (hw : w = BitVec.ofNat 32 r)
    (h0 : ∀ n < 16384, b0 (pos n) = X (49152 * r + n)) (h1 : ∀ n < 16384, b1 (pos n) = X (49152 * r + (16384 + n)))
    (h2 : ∀ n < 16384, b2 (pos n) = X (49152 * r + (32768 + n))) :
    Best X (laneFrom (j 0).val (49152 * r) (49152 * r + 49152)) (tileV b0 b1 b2 j) (tileI w b0 b1 b2 j) := by
  have hl : (j 0).val < 16 := (j 0).isLt
  have c0 := shift_best b0 j (X := fun n => X (49152 * r + n)) 0 (by decide) (fun n hn => (h0 n hn).trans (by simp))
  have c1 := shift_best b1 j (X := fun n => X (49152 * r + n)) 1 (by decide) (fun n hn => h1 n hn)
  have c2 := shift_best b2 j (X := fun n => X (49152 * r + n)) 2 (by decide) (fun n hn => h2 n hn)
  have hb := (c0.later c1 fun a ha z hz => by have := ha.2.1; have := hz.1; omega).later c2 fun a ha z hz => by
    have := hz.1
    rcases ha with ha | ha <;> have := ha.2.1 <;> omega
  subst hw
  have hm : Scalar.muli (BitVec.ofNat 32 r) 49152#32 = BitVec.ofNat 32 (49152 * r) := by
    have : ∀ n : Fin 32, Scalar.muli (BitVec.ofNat 32 n.val) 49152#32 = BitVec.ofNat 32 (49152 * n.val) := by decide +kernel
    exact this ⟨r, hr⟩
  unfold tileV tileI
  rw [shapeCast_self, shapeCast_self, hm]
  refine Best.move (49152 * r) hb (fun n => ?_) fun n hn => ?_
  · simp only [laneFrom, Set.mem_union, Set.mem_setOf_eq]; omega
  · have := hn.2.1; omega

end Cert.Proof
-- ==== Proof.RefBest.lean ====
/-
  What the reference computes, over the extended reals: its folds find first maxima.
-/
module

public import proofs.«01_k».proof.Proof.Ref
public import proofs.«01_k».proof.Proof.First
public import Idealize.ShloMosaic.Lib.Pointwise

@[expose] public section

noncomputable section

namespace Cert.Proof

open Idealize.ShloMosaic

/-- An array of 64 rows as one sequence of words, row after row. -/
def flatAt (x : (⟨2, ![64, 32768]⟩ : Shape).Idx → Ideal .f32) (n : ℕ) : EReal :=
  x (ix2 ⟨n / 32768 % 64, Nat.mod_lt _ (by decide)⟩ ⟨n % 32768, Nat.mod_lt _ (by decide)⟩)

/-- Row `r` of it as a sequence. -/
def rowAt (y : (⟨2, ![64, 32768]⟩ : Shape).Idx → Ideal .f32) (r : Fin 64) (n : ℕ) : EReal :=
  y (ix2 r ⟨n % 32768, Nat.mod_lt _ (by decide)⟩)

namespace Ref

open Cert.ReferenceIdeal Cert.ReferenceIdeal.Gen

variable {X : ℕ → EReal} {S : Set ℕ}

/-- One step of the reference's fold takes one position more. -/
theorem step_sofar {v : Ideal .f32} {i n : ℕ} (hi : i < 2097152) (hn : n < 2097152) (h : Sofar X S v i) :
    ∃ i' < 2097152, (reducer_argmax_f32_i32 (F := Ideal) (v, BitVec.ofNat 32 i) (X n, BitVec.ofNat 32 n)).2 = BitVec.ofNat 32 i'
      ∧ Sofar X (insert n S) (reducer_argmax_f32_i32 (F := Ideal) (v, BitVec.ofNat 32 i) (X n, BitVec.ofNat 32 n)).1 i' := by
  have e1 : (reducer_argmax_f32_i32 (F := Ideal) (v, BitVec.ofNat 32 i) (X n, BitVec.ofNat 32 n)).1
      = Scalar.select (BitVec.ofBool (decide (X n < v ∨ v ≠ v))) v (X n) := by
    rw [← or_bit]; rfl
  have e2 : (reducer_argmax_f32_i32 (F := Ideal) (v, BitVec.ofNat 32 i) (X n, BitVec.ofNat 32 n)).2
      = Scalar.select (BitVec.ofBool (decide ((X n < v ∨ v ≠ v) ∨ (v = X n ∧ i < n)))) (BitVec.ofNat 32 i) (BitVec.ofNat 32 n) := by
    rw [← or_bit, ← or_bit, ← and_bit, ← cmp_lt (by omega) (by omega)]; rfl
  rw [e1, e2]
  rcases lt_trichotomy (X n) v with hlt | heq | hgt
  · rw [sel_true _ (Or.inl hlt), sel_true _ (Or.inl (Or.inl hlt))]
    exact ⟨i, hi, rfl, h.keep hlt.le fun e => absurd e hlt.ne⟩
  · rw [sel_false (X n < v ∨ v ≠ v) (by simp [heq])]
    by_cases hlt : i < n
    · rw [sel_true _ (Or.inr ⟨heq.symm, hlt⟩), heq]
      exact ⟨i, hi, rfl, h.keep heq.le fun _ => hlt.le⟩
    · rw [sel_false _ (by rintro ((h | h) | h); exacts [h.ne heq, h rfl, hlt h.2]), heq]
      exact ⟨n, hn, rfl, h.tie heq (not_lt.1 hlt)⟩
  · rw [sel_false (X n < v ∨ v ≠ v) (by simp [hgt.le]), sel_false _ (by rintro ((h | h) | h); exacts [hgt.not_gt h, h rfl, hgt.ne h.1])]
    exact ⟨n, hn, rfl, h.take hgt⟩

/-- The fold over a list of positions. -/
theorem foldl_sofar {ι : Type} (f : ι → Ideal .f32 × BitVec 32) (p : ι → ℕ) (L : List ι)
    (hL : ∀ k ∈ L, p k < 2097152 ∧ f k = (X (p k), BitVec.ofNat 32 (p k))) :
    ∀ (S : Set ℕ) (v : Ideal .f32) (i : ℕ), i < 2097152 → Sofar X S v i →
      ∃ i' < 2097152, (L.foldl (fun r k => reducer_argmax_f32_i32 (F := Ideal) r (f k)) (v, BitVec.ofNat 32 i)).2 = BitVec.ofNat 32 i'
        ∧ Sofar X (S ∪ {n | ∃ k ∈ L, p k = n}) (L.foldl (fun r k => reducer_argmax_f32_i32 (F := Ideal) r (f k)) (v, BitVec.ofNat 32 i)).1 i' := by
  induction L with
  | nil => intro S v i hi h; exact ⟨i, hi, rfl, by simpa using h⟩
  | cons a L ih =>
    intro S v i hi h
    obtain ⟨ha, ef⟩ := hL a List.mem_cons_self
    obtain ⟨i1, hi1, ew, h1⟩ := step_sofar (n := p a) hi ha h
    obtain ⟨i2, hi2, ew2, h2⟩ := ih (fun k hk => hL k (List.mem_cons_of_mem _ hk)) _ _ i1 hi1 h1
    rw [List.foldl_cons, ef]
    rw [← ew] at ew2 h2
    refine ⟨i2, hi2, ew2, ?_⟩
    have e : S ∪ {n | ∃ k ∈ a :: L, p k = n} = insert (p a) S ∪ {n | ∃ k ∈ L, p k = n} := by
      ext n
      simp only [Set.mem_union, Set.mem_insert_iff, Set.mem_setOf_eq, List.mem_cons, exists_eq_or_imp]
      constructor
      · rintro (h | h | h)
        · exact Or.inl (Or.inr h)
        · exact Or.inl (Or.inl h.symm)
        · exact Or.inr h
      · rintro ((h | h) | h)
        · exact Or.inr (Or.inl h.symm)
        · exact Or.inl h
        · exact Or.inr (Or.inr h)
    rw [e]
    exact h2

/-- The reference's arg-max at a result index: the first maximum of the positions that drop to it, if 0 is one. -/
theorem arg_best {s t u : Shape} {axes : List (Fin s.rank)} (x : FVec Ideal s .f32) (y : IVec s 32) (ix : u.Idx → Ideal .f32)
    (iy : u.Idx → BitVec 32) (h : s.ReducesTo axes t) (hu : 0 < u.numel) (j : t.Idx) (p : s.Idx → ℕ)
    (hx : ix (Shape.Idx.first hu) = (⊥ : EReal)) (hy : iy (Shape.Idx.first hu) = 0#32)
    (hp : ∀ i, h.drop i = j → p i < 2097152 ∧ x i = X (p i) ∧ y i = BitVec.ofNat 32 (p i)) (h0 : ∃ i, h.drop i = j ∧ p i = 0)
    (T : Set ℕ) (hT : ∀ n, (∃ i, h.drop i = j ∧ p i = n) ↔ n ∈ T) :
    ∃ v, Best X T v (Host.argReduce (reducer_argmax_f32_i32 (F := Ideal)) x y ix iy h hu j).2 := by
  rw [Ideal.argReduce_eq_reduce2]
  unfold Host.reduce2
  rw [hx, hy]
  obtain ⟨i, hi, ew, hF⟩ := foldl_sofar (X := X) (fun n => (x (s.rowMajor.symm n), y (s.rowMajor.symm n))) (fun n => p (s.rowMajor.symm n))
    ((List.finRange s.numel).filter fun n => h.drop (s.rowMajor.symm n) = j) (fun k hk => by
      have hk' : h.drop (s.rowMajor.symm k) = j := by simpa using hk
      obtain ⟨h1, h2, h3⟩ := hp _ hk'
      exact ⟨h1, Prod.ext h2 h3⟩) ∅ ⊥ 0 (by decide) Sofar.empty
  have e : (∅ : Set ℕ) ∪ {n | ∃ k ∈ (List.finRange s.numel).filter fun n => h.drop (s.rowMajor.symm n) = j, p (s.rowMajor.symm k) = n}
      = {n | ∃ i, h.drop i = j ∧ p i = n} := by
    ext n
    simp only [Set.mem_union, Set.mem_empty_iff_false, false_or, Set.mem_setOf_eq, List.mem_filter, List.mem_finRange, true_and,
      decide_eq_true_eq]
    constructor
    · rintro ⟨k, hk, e⟩; exact ⟨_, hk, e⟩
    · rintro ⟨i, hk, e⟩; exact ⟨s.rowMajor i, by simpa using hk, by simpa using e⟩
  rw [e] at hF
  rw [show T = _ from (Set.ext hT).symm]
  exact ⟨_, i, hi, ew, hF.firstMax h0⟩

/-- The array read flat. -/
theorem flat_read (x : S64x32768.Idx → Ideal .f32) (i : S2097152.Idx) :
    shapeCast S2097152 x shapeCasts_S64x32768_S2097152 i = flatAt x (i 0).val := by
  have hi : (i 0).val < 2097152 := (i 0).isLt
  simp only [pointwise]
  unfold flatAt
  congr 2
  exact Fin.ext (Nat.mod_eq_of_lt (show (i 0).val / 32768 < 64 by omega)).symm

theorem flat_eq : @flat Ideal _ = fun x j =>
    (Host.argReduce reducer_argmax_f32_i32 (shapeCast S2097152 x shapeCasts_S64x32768_S2097152) (iotaInDim S2097152 32 0)
      (constant S_ .f32 0xFF800000#32) (constantI S_ 32 0#32) reducesTo_S2097152_S_d0 h_S_ j).2 := rfl
theorem rows_eq : @rows Ideal _ = fun y j =>
    (Host.argReduce reducer_argmax_f32_i32 y (iotaInDim S64x32768 32 1)
      (constant S_ .f32 0xFF800000#32) (constantI S_ 32 0#32) reducesTo_S64x32768_S64_d1 h_S_ j).2 := rfl

/-- The whole array's. -/
theorem flat_best (x : S64x32768.Idx → Ideal .f32) (j : S_.Idx) :
    ∃ v, Best (flatAt x) {n | n < 2097152} v (flat x j) := by
  rw [flat_eq]
  refine arg_best _ _ _ _ _ _ j (fun i : S2097152.Idx => (i 0).val) neg_inf rfl (fun i _ => ⟨(i 0).isLt, flat_read x i, rfl⟩)
    ⟨ix1 ⟨0, by decide⟩, funext fun a => a.elim0, rfl⟩ _ fun n => ⟨?_, ?_⟩
  · rintro ⟨i, -, rfl⟩; exact (i 0).isLt
  · intro hn; exact ⟨ix1 ⟨n, hn⟩, funext fun a => a.elim0, rfl⟩

/-- Each row's. -/
theorem rows_best (y : S64x32768.Idx → Ideal .f32) (j : S64.Idx) :
    ∃ v, Best (rowAt y (j 0)) {n | n < 32768} v (rows y j) := by
  have hd : ∀ i : S64x32768.Idx, reducesTo_S64x32768_S64_d1.drop i = j ↔ ∃ k : Fin 32768, ix2 (j 0) k = i :=
    Shape.ReducesTo.fiber_r2_a1 (n0 := 64) (n1 := 32768) reducesTo_S64x32768_S64_d1 j
  have hr : ∀ i : S64x32768.Idx, reducesTo_S64x32768_S64_d1.drop i = j → (i 1).val < 2097152 ∧ y i = rowAt y (j 0) (i 1).val := by
    intro i hi
    obtain ⟨k, rfl⟩ := (hd i).1 hi
    have hk : k.val < 32768 := k.isLt
    refine ⟨show k.val < 2097152 by omega, ?_⟩
    show y (ix2 (j 0) k) = y (ix2 (j 0) ⟨k.val % 32768, _⟩)
    congr 2
    exact Fin.ext (Nat.mod_eq_of_lt hk).symm
  rw [rows_eq]
  refine arg_best _ _ _ _ _ _ j (fun i : S64x32768.Idx => (i 1).val) neg_inf rfl (fun i hi => ⟨(hr i hi).1, (hr i hi).2, rfl⟩)
    ⟨ix2 (j 0) ⟨0, by decide⟩, (hd _).2 ⟨_, rfl⟩, rfl⟩ _ fun n => ⟨?_, ?_⟩
  · rintro ⟨i, -, rfl⟩; exact (i 1).isLt
  · intro hn; exact ⟨ix2 (j 0) ⟨n, hn⟩, (hd _).2 ⟨_, rfl⟩, rfl⟩

end Ref

end Cert.Proof
-- ==== Proof.TileBest.lean ====
/-
  What the SparseCore call leaves, over the extended reals: entry (r, l) is the first maximum of the words of lane `l` in
  tile row `r`'s part of `x1`.
-/
module

public import proofs.«01_k».proof.Proof.Sc
public import proofs.«01_k».proof.Proof.Lanes
public import proofs.«01_k».proof.Proof.RefBest

@[expose] public section

noncomputable section

namespace Cert.Proof

open Cert.KernelIdeal Cert.KernelIdeal.Gen
open Idealize.ShloMosaic

theorem off1_eq : ∀ (L : grid0.Coords) (k : Fin 3), k0_off1 L (BitVec.ofNat 32 k.val)
    = ![(3 * (2 * (L 1).val + (L 0).val) + k.val) / 2, (3 * (2 * (L 1).val + (L 0).val) + k.val) % 2 * 16384] := by decide +kernel

theorem wid_eq : ∀ L : grid0.Coords, widW L = BitVec.ofNat 32 (2 * (L 1).val + (L 0).val) := by decide +kernel

theorem word16384 (y : S16384.Idx) :
    ((Shape.reshapeEquiv (s := S1x16384) (s' := S16384) squeezes_S1x16384_S16384.numel_eq) y 1).val = (y 0).val :=
  shapeCast_dropUnit_apply (n := 1) ![16384] (fun i => (i 1).val) squeezes_S1x16384_S16384.numel_eq y

/-- The tile's `k`-th half-row. -/
abbrev xsk (L : grid0.Coords) (k : Fin 3) : Memref sig .scVector .hbm S16384 .f32 :=
  ((xV).slice (Rect.unit (s := S64x32768) (k0_off1 L (BitVec.ofNat 32 k.val)) S1x16384.size (k0_off1_inb L k)) (fun _ => rfl)).squeeze S16384
    squeezes_S1x16384_S16384

theorem xsk_emb (L : grid0.Coords) (k : Fin 3) (y : S16384.Idx) (a : Fin 2) :
    ((xsk L k).view.emb y a).val = match a with
      | 0 => (3 * (2 * (L 1).val + (L 0).val) + k.val) / 2
      | 1 => (3 * (2 * (L 1).val + (L 0).val) + k.val) % 2 * 16384 + (y 0).val := by
  match a with
  | 0 =>
    show k0_off1 L (BitVec.ofNat 32 k.val) 0 + 1 * ((Shape.reshapeEquiv (s := S1x16384) (s' := S16384) squeezes_S1x16384_S16384.numel_eq) y 0).val = _
    have : ((Shape.reshapeEquiv (s := S1x16384) (s' := S16384) squeezes_S1x16384_S16384.numel_eq) y 0).val < 1 := Fin.isLt _
    rw [off1_eq]
    show (3 * (2 * (L 1).val + (L 0).val) + k.val) / 2 + _ = (3 * (2 * (L 1).val + (L 0).val) + k.val) / 2
    omega
  | 1 =>
    show k0_off1 L (BitVec.ofNat 32 k.val) 1 + 1 * ((Shape.reshapeEquiv (s := S1x16384) (s' := S16384) squeezes_S1x16384_S16384.numel_eq) y 1).val = _
    rw [word16384, off1_eq, Nat.one_mul]
    rfl

/-- A word of it, as a word of the whole. -/
theorem xsk_at (d : Dev nD) (L : grid0.Coords) (k : Fin 3) (fx : Buf (Elt Ideal) (xLoc d)) (n : ℕ) (hn : n < 16384) :
    (xsk L k).view.read (Elt Ideal) fx (pos n) = flatAt fx (49152 * (2 * (L 1).val + (L 0).val) + (16384 * k.val + n)) := by
  have h0 : (L 0).val < 2 := (L 0).isLt
  have h1 : (L 1).val < 16 := (L 1).isLt
  have hk : k.val < 3 := k.isLt
  refine ((View.read_apply _ _).trans (cast_eq _ _)).trans ?_
  show fx _ = fx _
  congr 1
  funext a
  apply Fin.ext
  refine (xsk_emb L k (pos n) a).trans ?_
  match a with
  | 0 =>
    show (3 * (2 * (L 1).val + (L 0).val) + k.val) / 2 = (49152 * (2 * (L 1).val + (L 0).val) + (16384 * k.val + n)) / 32768 % 64
    omega
  | 1 =>
    show (3 * (2 * (L 1).val + (L 0).val) + k.val) % 2 * 16384 + n % 16384
      = (49152 * (2 * (L 1).val + (L 0).val) + (16384 * k.val + n)) % 32768
    omega

theorem rowTile_wid (r : Fin 32) : 2 * (rowTile r 1).val + (rowTile r 0).val = r.val := by
  show 2 * (r.val / 2) + r.val % 2 = r.val
  omega

/-- The call's outputs. -/
theorem sc_best (m : (ℓ : Loc nD τ sig) → Buf (Elt Ideal) ℓ) (d : Dev nD) (j : S32x16.Idx) :
    Best (flatAt (m (xLoc d))) (laneFrom (j 1).val (49152 * (j 0).val) (49152 * (j 0).val + 49152)) (pvF m d j) (piF m d j) := by
  have hw : widW (rowTile (j 0)) = BitVec.ofNat 32 (j 0).val := (wid_eq _).trans (congrArg (BitVec.ofNat 32) (rowTile_wid (j 0)))
  have hx : ∀ (k : Fin 3), ∀ n < 16384, (xsk (rowTile (j 0)) k).view.read (Elt Ideal) (m (xLoc d)) (pos n)
      = flatAt (m (xLoc d)) (49152 * (j 0).val + (16384 * k.val + n)) := fun k n hn =>
    (xsk_at d _ k _ n hn).trans (congrArg (fun r => flatAt (m (xLoc d)) (49152 * r + (16384 * k.val + n))) (rowTile_wid (j 0)))
  exact tile_best (lane (j 1)) _ _ _ (j 0).val (j 0).isLt _ hw (fun n hn => (hx 0 n hn).trans (by simp)) (fun n hn => hx 1 n hn)
    (fun n hn => hx 2 n hn)

end Cert.Proof
-- ==== Proof.RowBest.lean ====
/-
  What the TensorCore finds in rows, over the extended reals: per row, the first maximum of its words.
-/
module

public import proofs.«01_k».proof.Proof.Reg1
public import proofs.«01_k».proof.Proof.Lanes
public import proofs.«01_k».proof.Proof.RefBest
public import Idealize.ShloMosaic.Lib.Pointwise

@[expose] public section

noncomputable section

namespace Cert.Proof

open Cert.KernelIdeal Cert.KernelIdeal.Gen
open Idealize.ShloMosaic

variable (v : S8x32768.Idx → Ideal .f32) (j : S8.Idx)

/-- Row `r` of a block as a sequence of words. -/
def blockRow (r : Fin 8) (n : ℕ) : EReal := v (ix2 r ⟨n % 32768, Nat.mod_lt _ (by decide)⟩)

theorem pay4_at : k1_pay4 (F := Ideal) v j = (Finset.univ : Finset (Fin 32768)).fold max ⊥ fun k => v (ix2 (j 0) k) := by
  unfold k1_pay4
  simp only [pointwise, neg_inf]

theorem pay3_at : k1_pay3 (F := Ideal) v j = (Finset.univ : Finset (Fin 32768)).fold IntOp.minsi 2147483647#32 fun k =>
    Scalar.select (FloatOps.cmpf (F := Ideal) (φ := .f32) .oeq (v (ix2 (j 0) k)) ((Finset.univ : Finset (Fin 32768)).fold max ⊥ fun k => v (ix2 (j 0) k)))
      (BitVec.ofNat 32 k.val) 2147483647#32 := by
  unfold k1_pay3
  simp only [pointwise, neg_inf]
  refine Finset.fold_congr fun k _ => ?_
  have e : List.foldl (fun n a => n * (![8, 32768] : Fin 2 → ℕ) a + (ix2 (j 0) k a).val) 0 [1] = k.val := by
    simp only [List.foldl_cons, List.foldl_nil, Nat.zero_mul, Nat.zero_add]
    rfl
  show (if v (ix2 (j 0) k) = Finset.fold max ⊥ (fun k => v (ix2 (j 0) k)) Finset.univ then
      BitVec.ofNat 32 (List.foldl (fun n a => n * (![8, 32768] : Fin 2 → ℕ) a + (ix2 (j 0) k a).val) 0 [1]) else 2147483647#32) = _
  rw [e]

/-- The block's maxima and their columns. -/
theorem block_best : Best (blockRow v (j 0)) {n | n < 32768} (k1_pay4 (F := Ideal) v j) (k1_pay3 (F := Ideal) v j) := by
  rw [pay4_at, pay3_at]
  refine (pick_max (X := blockRow v (j 0)) (Finset.univ : Finset (Fin 32768)) ⟨⟨0, by decide⟩, Finset.mem_univ _⟩ (fun k => {k.val})
    (fun k => v (ix2 (j 0) k)) (fun k => BitVec.ofNat 32 k.val) fun k _ => ?_).of_set fun n => ⟨?_, ?_⟩
  · have hk : k.val < 32768 := k.isLt
    have e : v (ix2 (j 0) k) = blockRow v (j 0) k.val := by
      unfold blockRow
      congr 2
      exact Fin.ext (Nat.mod_eq_of_lt hk).symm
    rw [e]
    exact ⟨k.val, by omega, rfl, FirstMax.single _⟩
  · rintro ⟨k, -, rfl⟩; exact k.isLt
  · intro hn; exact ⟨⟨n, hn⟩, Finset.mem_univ _, rfl⟩

theorem pay1_eq : k1_pay1 (F := Ideal) v = k1_pay3 (F := Ideal) v := rfl

theorem flat_row (x : S64x32768.Idx → Ideal .f32) (b : ℕ) (r : Fin 8) (hb : 8 * b + r.val < 64) (n : ℕ) (hn : n < 32768) :
    blockRow (rowsOf x b) r n = flatAt x (32768 * (8 * b + r.val) + n) := by
  show x _ = x _
  congr 1
  funext a
  apply Fin.ext
  match a with
  | 0 => show (8 * b + r.val) % 64 = (32768 * (8 * b + r.val) + n) / 32768 % 64; omega
  | 1 => show n % 32768 = (32768 * (8 * b + r.val) + n) % 32768; omega

/-- The rows of `x2`. -/
theorem ra_best (y : S64x32768.Idx → Ideal .f32) (j : S64.Idx) : ∃ v, Best (rowAt y (j 0)) {n | n < 32768} v (raF y j) := by
  have hj : (j 0).val < 64 := (j 0).isLt
  refine ⟨_, best_congr (block_best (rowsOf y ((j 0).val / 8)) (in8 (j 0).val)) fun n hn => ?_⟩
  show y _ = y _
  congr 1
  funext a
  apply Fin.ext
  match a with
  | 0 => show (8 * ((j 0).val / 8) + (j 0).val % 8) % 64 = (j 0).val; omega
  | 1 => rfl

theorem pay5_at : k1_pay5 (F := Ideal) v j = IntOp.addi (BitVec.ofNat 32 (32768 * (48 + (j 0).val))) (k1_pay3 (F := Ideal) v j) := by
  have h : ∀ j : S8.Idx, muli (addi (broadcast S8 48#32) (shapeCast S8 (iota .tc S1x8 32 [1] iota_S1x8_d1_w32) shapeCasts_S1x8_S8))
      (broadcast S8 32768#32) j = BitVec.ofNat 32 (32768 * (48 + (j 0).val)) := by decide +kernel
  rw [← h]
  rfl
theorem pay6_at : k1_pay6 (F := Ideal) v j = IntOp.addi (BitVec.ofNat 32 (32768 * (56 + (j 0).val))) (k1_pay3 (F := Ideal) v j) := by
  have h : ∀ j : S8.Idx, muli (addi (broadcast S8 56#32) (shapeCast S8 (iota .tc S1x8 32 [1] iota_S1x8_d1_w32) shapeCasts_S1x8_S8))
      (broadcast S8 32768#32) j = BitVec.ofNat 32 (32768 * (56 + (j 0).val)) := by decide +kernel
  rw [← h]
  rfl

/-- The words of row `r`. -/
def rowSetAt (r : ℕ) : Set ℕ := {n | 32768 * r ≤ n ∧ n < 32768 * r + 32768}

/-- A row of a block of `x1` as positions in the whole. -/
theorem block_move (x : S64x32768.Idx → Ideal .f32) (b : ℕ) (k : ℕ) (hk : k < 8) (hb : 8 * b + k < 64) :
    Best (flatAt x) (rowSetAt (8 * b + k)) (k1_pay4 (F := Ideal) (rowsOf x b) (in8 k))
      (IntOp.addi (BitVec.ofNat 32 (32768 * (8 * b + k))) (k1_pay3 (F := Ideal) (rowsOf x b) (in8 k))) := by
  have e : (in8 k 0).val = k := Nat.mod_eq_of_lt hk
  refine Best.move (32768 * (8 * b + k)) (best_congr (block_best (rowsOf x b) (in8 k)) fun n hn => ?_) (fun n => ?_) fun n hn => ?_
  · rw [flat_row x b (in8 k 0) (by rw [e]; exact hb) n hn, e]
  · simp only [rowSetAt, Set.mem_setOf_eq]; omega
  · have := hn.2; omega

/-- The last sixteen rows of `x1`. -/
theorem xv_best (x : S64x32768.Idx → Ideal .f32) (j : S16.Idx) :
    Best (flatAt x) (rowSetAt (48 + (j 0).val)) (xvF x j) (xiF x j) := by
  have hj : (j 0).val < 16 := (j 0).isLt
  have e8 : in8 (j 0).val = in8 ((j 0).val % 8) := funext fun a => Fin.ext (by
    match a with
    | 0 => show (j 0).val % 8 = (j 0).val % 8 % 8; omega)
  unfold xvF xiF
  by_cases h : (j 0).val / 8 = 0
  · rw [if_pos h, pay5_at, e8, h]
    have e : 48 + (j 0).val = 8 * (6 + 0) + (j 0).val % 8 := by omega
    have e' : 48 + (in8 ((j 0).val % 8) 0).val = 8 * (6 + 0) + (j 0).val % 8 := by
      show 48 + (j 0).val % 8 % 8 = _; omega
    rw [e, e']
    exact block_move x 6 _ (by omega) (by omega)
  · have h1 : (j 0).val / 8 = 1 := by omega
    rw [if_neg h, pay6_at, e8, h1]
    have e : 48 + (j 0).val = 8 * (6 + 1) + (j 0).val % 8 := by omega
    have e' : 56 + (in8 ((j 0).val % 8) 0).val = 8 * (6 + 1) + (j 0).val % 8 := by
      show 56 + (j 0).val % 8 % 8 = _; omega
    rw [e, e']
    exact block_move x 7 _ (by omega) (by omega)

end Cert.Proof
-- ==== Proof.MergeBest.lean ====
/-
  The last TensorCore call, over the extended reals: of the candidates of both calls, the first maximum of all.
-/
module

public import proofs.«01_k».proof.Proof.Gen.KernelIdeal.Skeleton
public import proofs.«01_k».proof.Proof.First
public import Idealize.ShloMosaic.Lib.Pointwise

@[expose] public section

noncomputable section

namespace Cert.Proof

open Cert.KernelIdeal Cert.KernelIdeal.Gen
open Idealize.ShloMosaic

/-- Two families of candidates, picked from apart: the first maximum over both. -/
theorem pick_two {X : ℕ → EReal} {κ μ : Type} [DecidableEq κ] [DecidableEq μ] [Fintype κ] [Fintype μ] (k₀ : κ)
    (A : κ → Set ℕ) (V : κ → Ideal .f32) (W : κ → BitVec 32) (B : μ → Set ℕ) (V' : μ → Ideal .f32) (W' : μ → BitVec 32)
    (hA : ∀ k, Best X (A k) (V k) (W k)) (hB : ∀ k, Best X (B k) (V' k) (W' k)) (g : EReal)
    (hg : g = max (Finset.univ.fold max ⊥ V) (Finset.univ.fold max ⊥ V')) :
    Best X {n | (∃ k, n ∈ A k) ∨ ∃ k, n ∈ B k} g
      (IntOp.minsi (Finset.univ.fold IntOp.minsi 2147483647#32 fun k => Scalar.select (FloatOps.cmpf (F := Ideal) .oeq (V k) g) (W k) 2147483647#32)
        (Finset.univ.fold IntOp.minsi 2147483647#32 fun k => Scalar.select (FloatOps.cmpf (F := Ideal) .oeq (V' k) g) (W' k) 2147483647#32)) := by
  have split : ∀ {α : Type} (op : α → α → α) [Std.Commutative op] [Std.Associative op] (b : α) (hb : op b b = b) (f : κ ⊕ μ → α),
      Finset.univ.fold op b f = op (Finset.univ.fold op b fun k => f (Sum.inl k)) (Finset.univ.fold op b fun k => f (Sum.inr k)) := by
    intro α op _ _ b hb f
    have e : (Finset.univ : Finset (κ ⊕ μ)) = (Finset.univ.map Function.Embedding.inl).disjUnion (Finset.univ.map Function.Embedding.inr)
        (Finset.disjoint_map_inl_map_inr _ _) := by
      rw [Finset.map_inl_disjUnion_map_inr]; rfl
    rw [e]
    conv_lhs => rw [← hb]
    rw [Finset.fold_disjUnion, Finset.fold_map, Finset.fold_map]
    rfl
  have h := pick_max (X := X) (Finset.univ : Finset (κ ⊕ μ)) ⟨Sum.inl k₀, Finset.mem_univ _⟩ (Sum.elim A B) (Sum.elim V V') (Sum.elim W W')
    (fun k _ => by rcases k with k | k; exacts [hA k, hB k])
  rw [split IntOp.minsi _ (by decide), split max ⊥ (max_self _)] at h
  simp only [Sum.elim_inl, Sum.elim_inr] at h
  rw [← hg] at h
  refine h.of_set fun n => ⟨?_, ?_⟩
  · rintro ⟨k | k, -, hn⟩
    · exact Or.inl ⟨k, hn⟩
    · exact Or.inr ⟨k, hn⟩
  · rintro (⟨k, hn⟩ | ⟨k, hn⟩)
    · exact ⟨Sum.inl k, Finset.mem_univ _, hn⟩
    · exact ⟨Sum.inr k, Finset.mem_univ _, hn⟩

/-- The larger of the two calls' maxima. -/
def gmax (v : S32x16.Idx → Ideal .f32) (u : S16.Idx → Ideal .f32) : EReal :=
  max ((Finset.univ : Finset (Fin 32 × Fin 16)).fold max ⊥ fun k => v (ix2 k.1 k.2)) ((Finset.univ : Finset (Fin 16)).fold max ⊥ fun k => u (ix1 k))

theorem k2_at (v : S32x16.Idx → Ideal .f32) (w : S32x16.Idx → BitVec 32) (u : S16.Idx → Ideal .f32) (z : S16.Idx → BitVec 32)
    (r : S64.Idx → BitVec 32) (j : S64.Idx) :
    k2_pay1 (F := Ideal) v u v w u z r j = IntOp.addi (r j)
      (IntOp.minsi ((Finset.univ : Finset (Fin 32 × Fin 16)).fold IntOp.minsi 2147483647#32 fun k =>
          Scalar.select (FloatOps.cmpf (F := Ideal) (φ := .f32) .oeq (v (ix2 k.1 k.2)) (gmax v u)) (w (ix2 k.1 k.2)) 2147483647#32)
        ((Finset.univ : Finset (Fin 16)).fold IntOp.minsi 2147483647#32 fun k =>
          Scalar.select (FloatOps.cmpf (F := Ideal) (φ := .f32) .oeq (u (ix1 k)) (gmax v u)) (z (ix1 k)) 2147483647#32)) := by
  unfold k2_pay1 gmax
  simp only [pointwise, neg_inf]
  rfl

end Cert.Proof
-- ==== Proof.Value.lean ====
/-
  The value claim: the kernel's result is the reference's, since both are the first maxima of the same sequences.
-/
module

public import proofs.«01_k».proof.Proof.TileBest
public import proofs.«01_k».proof.Proof.RowBest
public import proofs.«01_k».proof.Proof.MergeBest
public import proofs.«01_k».proof.Proof.Run

@[expose] public section

noncomputable section

namespace Cert.Proof

open Cert.KernelIdeal Cert.KernelIdeal.Gen
open Idealize.ShloMosaic Idealize.ShloMosaic.TcCoe Idealize.SL.Sem

/-- The candidates' sets are together the whole of `x1`. -/
theorem cover (n : ℕ) :
    ((∃ k : Fin 32 × Fin 16, n ∈ laneFrom k.2.val (49152 * k.1.val) (49152 * k.1.val + 49152)) ∨ ∃ k : Fin 16, n ∈ rowSetAt (48 + k.val))
      ↔ n ∈ {n : ℕ | n < 2097152} := by
  constructor
  · rintro (⟨k, h⟩ | ⟨k, h⟩)
    · have h1 := h.2.1
      have := k.1.isLt
      show n < 2097152; omega
    · have h1 := h.2
      have := k.isLt
      show n < 2097152; omega
  · intro (h : n < 2097152)
    by_cases h1 : n < 1572864
    · refine Or.inl ⟨(⟨n / 49152, by omega⟩, ⟨n % 16, by omega⟩), ?_, ?_, rfl⟩
      · show 49152 * (n / 49152) ≤ n; omega
      · show n < 49152 * (n / 49152) + 49152; omega
    · refine Or.inr ⟨⟨n / 32768 - 48, by omega⟩, ?_, ?_⟩
      · show 32768 * (48 + (n / 32768 - 48)) ≤ n; omega
      · show n < 32768 * (48 + (n / 32768 - 48)) + 32768; omega

/-- The merge over any candidates of these sets. -/
theorem merge_best (X : ℕ → EReal) (v : S32x16.Idx → Ideal .f32) (w : S32x16.Idx → BitVec 32) (u : S16.Idx → Ideal .f32)
    (z : S16.Idx → BitVec 32) (r : S64.Idx → BitVec 32) (j : S64.Idx)
    (hv : ∀ i : S32x16.Idx, Best X (laneFrom (i 1).val (49152 * (i 0).val) (49152 * (i 0).val + 49152)) (v i) (w i))
    (hu : ∀ i : S16.Idx, Best X (rowSetAt (48 + (i 0).val)) (u i) (z i)) :
    ∃ a, k2_pay1 (F := Ideal) v u v w u z r j = IntOp.addi (r j) a ∧ ∃ g, Best X {n | n < 2097152} g a :=
  ⟨_, k2_at v w u z r j, _, (pick_two (κ := Fin 32 × Fin 16) (μ := Fin 16) (0, 0) _ _ _ _ _ _ (fun k => hv (ix2 k.1 k.2))
    (fun k => hu (ix1 k)) _ rfl).of_set cover⟩

/-- Word for word the results are equal. -/
theorem oF_eq (m : (ℓ : Loc nD τ sig) → Buf (Elt Ideal) ℓ) (c : Dev nD) : oF m c = Ref.out (F := Ideal) (m (xLoc c)) (m (yLoc c)) := by
  funext j
  obtain ⟨a, ha, g, hg⟩ := merge_best (flatAt (m (xLoc c))) _ _ _ _ (raF (F := Ideal) (m (yLoc c))) j (sc_best m c) (xv_best (m (xLoc c)))
  obtain ⟨f, hf⟩ := Ref.flat_best (m (xLoc c)) (fun a => a.elim0)
  obtain ⟨p, hp⟩ := ra_best (m (yLoc c)) j
  obtain ⟨q, hq⟩ := Ref.rows_best (m (yLoc c)) j
  have e1 : a = Ref.flat (F := Ideal) (m (xLoc c)) (fun a => a.elim0) := (hg.unique hf).2
  have e2 : raF (F := Ideal) (m (yLoc c)) j = Ref.rows (F := Ideal) (m (yLoc c)) j := (hp.unique hq).2
  have e3 : Ref.out (F := Ideal) (m (xLoc c)) (m (yLoc c)) j
      = IntOp.addi (Ref.flat (F := Ideal) (m (xLoc c)) (fun a => a.elim0)) (Ref.rows (F := Ideal) (m (yLoc c)) j) := by
    unfold Ref.out
    exact congrArg (fun i => IntOp.addi (Ref.flat (F := Ideal) (m (xLoc c)) i) (Ref.rows (F := Ideal) (m (yLoc c)) j)) (funext fun a => a.elim0)
  refine (show oF m c j = _ from ha).trans (.trans ?_ e3.symm)
  rw [e1, e2]
  exact BitVec.add_comm _ _

/-- The value claim. -/
theorem algebraic : Cert.algebraic_KernelIdeal_ReferenceIdeal := by
  intro m ρ m' ρ' _ hm
  refine ⟨fun c => oF m c, ?_, ?_⟩
  · exact (θ_run (Cert.KernelIdeal.defs (F := Ideal)) _ _).mono
      (fun _ h c => ⟨(h.1 c).2.2, (h.1 c).1, (h.1 c).2.1⟩) (run_main (F := Ideal) m ρ)
  · refine (θ_run (Cert.ReferenceIdeal.defs (F := Ideal)) _ _).mono (fun _ h c => ⟨(h c).1.trans ?_, (h c).2⟩)
      (Ref.run_ref (F := Ideal) m' ρ')
    rw [(hm c).1, (hm c).2]
    exact (oF_eq m c).symm

end Cert.Proof
-- ==== Proof.lean ====
/- The certificate's claim, from the modules under Proof/. -/
module

public import proofs.«01_k».proof.Defs
public import proofs.«01_k».proof.Proof.Frames
public import proofs.«01_k».proof.Proof.Ref
public import proofs.«01_k».proof.Proof.Value

@[expose] public section

noncomputable section

namespace Cert.Proof

/-- The frames, a `preserves` with nothing rewritten, and the value claim. -/
theorem claim : Cert.Claim :=
  ⟨Cert.Kernel.Gen.facts, Cert.KernelIdeal.Gen.facts, Cert.ReferenceIdeal.Gen.facts, frame_kernel, frame_ideal,
    Ref.frame_reference, trivial, algebraic⟩

end Cert.Proof

end
